-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_counted : Cert.Pre_counted.Facts] (m : (ℓ : Loc Cert.Kernel2.nD Cert.Kernel2.τ Cert.Kernel2.sig) → Buf (Elt Bits) ℓ) : Prop :=
  ∀ c : Dev Cert.Kernel2.nD,
    (Cert.Pre_counted.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_counted : Cert.Pre_counted.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counted.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counted [hPre_counted : Cert.Pre_counted.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counted.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_counted : Cert.Pre_counted.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_counted [hReference2Ideal : Cert.Reference2Ideal.Facts] [hPre_counted : Cert.Pre_counted.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counted m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "c" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_counted : Cert.Pre_counted.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_counted := hPre_counted)
    ∧ quiescent_Kernel2Ideal (hKernel2Ideal := hKernel2Ideal) (hPre_counted := hPre_counted)
    ∧ quiescent_Reference2Ideal (hReference2Ideal := hReference2Ideal)
    ∧ quiescent_Reference2Ideal_pre_counted (hReference2Ideal := hReference2Ideal) (hPre_counted := hPre_counted)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_counted := hPre_counted)
-- ==== Pre_counted.lean ====
abbrev S53248x2048 : Shape := ⟨2, ![53248, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S53248x2048 .f32) (main_arg1 : IVec S8 32) (main_arg2 : FVec F S8x2048x7168 .bf16) (main_arg3 : FVec F S8x2048x7168 .bf16) (main_arg4 : FVec F S8x7168x2048 .bf16) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 49152#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 1#32
  let main_v7 : IVec S_ 1 := cmpi .sge main_v6 main_c_3
  let main_v8 : IVec S_ 1 := andi main_v5 main_v7
  let main_c_4 : IVec S_ 32 := constantI S_ 32 0#32
  let main_v9 : IVec S_ 32 := (fun x v => Host.reduce IntOp.addi x v reducesTo_S8_S_d0 h_S_) main_arg1 main_c_4
  let main_c_5 : IVec S_ 32 := constantI S_ 32 49152#32
  let main_v10 : IVec S_ 1 := cmpi .sle main_v9 main_c_5
  let main_v11 : IVec S_ 1 := andi main_v8 main_v10
  main_v11
-- ==== Pre_finite.lean ====
abbrev S4x4096x8x128 : Shape := ⟨4, ![4, 4096, 8, 128]⟩
abbrev S4x4096x2x128 : Shape := ⟨4, ![4, 4096, 2, 128]⟩
abbrev S1x8192x8x128 : Shape := ⟨4, ![1, 8192, 8, 128]⟩
abbrev S1x8192x2x128 : Shape := ⟨4, ![1, 8192, 2, 128]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x2x128 : S_.BroadcastsInDim S4x4096x2x128 (![] : Fin 0 → Fin S4x4096x2x128.rank)
  reducesTo_S4x4096x2x128_S_d0_1_2_3 : S4x4096x2x128.ReducesTo [0, 1, 2, 3] S_

variable [Facts]

def fn {F : FTy → Type} [FloatOps F] (main_arg0 : FVec F S4x4096x8x128 .f32) (main_arg1 : FVec F S4x4096x2x128 .f32) (main_arg2 : FVec F S4x4096x2x128 .f32) (main_arg3 : FVec F S1x8192x8x128 .f32) (main_arg4 : FVec F S1x8192x2x128 .f32) (main_arg5 : FVec F S1x8192x2x128 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x2x128 .f32 := Host.absf main_arg1
  let main_cst_0 : FVec F S_ .f32 := constant S_ .f32 0x7F800000#32
  let main_v5 : FVec F S4x4096x2x128 .f32 := broadcastInDim S4x4096x2x128 ![] bcast_S_S4x4096x2x128 main_cst_0
  let main_v6 : IVec S4x4096x2x128 1 := cmpf .olt main_v4 main_v5
  let main_c_1 : IVec S_ 1 := constantI S_ 1 1#1
  let main_v7 : IVec S_ 1 := (fun x v => Host.reduce IntOp.andi x v reducesTo_S4x4096x2x128_S_d0_1_2_3 h_S_) main_v6 main_c_1
  let main_v8 : IVec S_ 1 := andi main_v3 main_v7
  main_v8
-- ==== Kernel.lean ====
abbrev S4x4096x8x128 : Shape := ⟨4, ![4, 4096, 8, 128]⟩
abbrev S4x4096x2x128 : Shape := ⟨4, ![4, 4096, 2, 128]⟩
abbrev S1x8192x8x128 : Shape := ⟨4, ![1, 8192, 8, 128]⟩
abbrev S1x8192x2x128 : Shape := ⟨4, ![1, 8192, 2, 128]⟩
abbrev S16384x1024 : Shape := ⟨2, ![16384, 1024]⟩
abbrev S8192x1024 : Shape := ⟨2, ![8192, 1024]⟩
abbrev S24576x1024 : Shape := ⟨2, ![24576, 1024]⟩
abbrev S16384x256 : Shape := ⟨2, ![16384, 256]⟩
abbrev S8192x256 : Shape := ⟨2, ![8192, 256]⟩
abbrev S24576x256 : Shape := ⟨2, ![24576, 256]⟩
abbrev S_ : Shape := ⟨0, ![]⟩
abbrev S24576x128 : Shape := ⟨2, ![24576, 128]⟩
abbrev S24576x1792 : Shape := ⟨2, ![24576, 1792]⟩
abbrev S1024x512 : Shape := ⟨2, ![1024, 512]⟩
abbrev S4096x128 : Shape := ⟨2, ![4096, 128]⟩
abbrev S4096x256 : Shape := ⟨2, ![4096, 256]⟩
abbrev S512x128 : Shape := ⟨2, ![512, 128]⟩
abbrev S512x256 : Shape := ⟨2, ![512, 256]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 22
  | .vmem => 10
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S1x8192x8x128, .f32⟩
  | .hbm, ⟨4, _⟩ => ⟨S1x8192x2x128, .f32⟩
  | .hbm, ⟨5, _⟩ => ⟨S1x8192x2x128, .f32⟩
  | .hbm, ⟨6, _⟩ => ⟨S16384x1024, .f32⟩
  | .hbm, ⟨7, _⟩ => ⟨S8192x1024, .f32⟩
  | .hbm, ⟨8, _⟩ => ⟨S24576x1024, .f32⟩
  | .hbm, ⟨9, _⟩ => ⟨S16384x256, .f32⟩
  | .hbm, ⟨10, _⟩ => ⟨S8192x256, .f32⟩
  | .hbm, ⟨11, _⟩ => ⟨S24576x256, .f32⟩
  | .hbm, ⟨12, _⟩ => ⟨S16384x256, .f32⟩
  | .hbm, ⟨13, _⟩ => ⟨S8192x256, .f32⟩
  | .hbm, ⟨14, _⟩ => ⟨S24576x256, .f32⟩
  | .hbm, ⟨15, _⟩ => ⟨S_, .f32⟩
  | .hbm, ⟨16, _⟩ => ⟨S24576x128, .f32⟩
  | .hbm, ⟨17, _⟩ => ⟨S24576x128, .f32⟩
  | .hbm, ⟨18, _⟩ => ⟨S24576x128, .f32⟩
  | .hbm, ⟨19, _⟩ => ⟨S24576x1792, .f32⟩
  | .hbm, ⟨20, _⟩ => ⟨S24576x1792, .bf16⟩
  | .hbm, ⟨21, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .bf16⟩
  | .local _ .vmem, ⟨5, _⟩ => ⟨S4096x256, .bf16⟩
  | .local _ .vmem, ⟨6, _⟩ => ⟨S1024x512, .bf16⟩
  | .local _ .vmem, ⟨7, _⟩ => ⟨S1024x512, .bf16⟩
  | .local _ .vmem, ⟨8, _⟩ => ⟨S4096x128, .f32⟩
  | .local _ .vmem, ⟨9, _⟩ => ⟨S4096x256, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  v29
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  let v30 : BitVec 32 := v29
  let v31 : Index := Scalar.indexCast v30
  let c0_23 : Index := 0#32
  ![v31.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  let v30 : BitVec 32 := v29
  let v34 : Index := Scalar.indexCast v30
  let c0_24 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c5_i32 : BitVec 32 := 5#32
  let v1 : BitVec 32 := Scalar.addi c5_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "c" => some (((Real.sqrt 128)⁻¹ * (Real.log 2)⁻¹ : ℝ) : EReal)
  | _ => none
-- ==== ReferenceIdeal.lean ====
abbrev S4x4096x8x128 : Shape := ⟨4, ![4, 4096, 8, 128]⟩
abbrev S4x4096x2x128 : Shape := ⟨4, ![4, 4096, 2, 128]⟩
abbrev S1x8192x8x128 : Shape := ⟨4, ![1, 8192, 8, 128]⟩
abbrev S1x8192x2x128 : Shape := ⟨4, ![1, 8192, 2, 128]⟩
abbrev S4x4096x2x4x128 : Shape := ⟨5, ![4, 4096, 2, 4, 128]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩
abbrev S16384x1024 : Shape := ⟨2, ![16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S1x8192x8x128, .f32⟩
  | .hbm, ⟨4, _⟩ => ⟨S1x8192x2x128, .f32⟩
  | .hbm, ⟨5, _⟩ => ⟨S1x8192x2x128, .f32⟩
  | .hbm, ⟨6, _⟩ => ⟨S4x4096x2x4x128, .f32⟩
  | .hbm, ⟨7, _⟩ => ⟨S4x2x4096x4096x4, .f32⟩
  | .hbm, ⟨8, _⟩ => ⟨S4x2x4x4096x4096, .f32⟩
  | .hbm, ⟨9, _⟩ => ⟨S_, .f32⟩
  | .hbm, ⟨10, _⟩ => ⟨S_, .f32⟩
  | .hbm, ⟨11, _⟩ => ⟨S4x2x4x4096x4096, .f32⟩
  | .hbm, ⟨12, _⟩ => ⟨S4x2x4x4096x4096, .f32⟩
  | .hbm, ⟨13, _⟩ => ⟨S_, .f32⟩
  | .hbm, ⟨14, _⟩ => ⟨S4x2x4x4096, .f32⟩
  | .hbm, ⟨15, _⟩ => ⟨S_, .f32⟩
  | .hbm, ⟨16, _⟩ => ⟨S4x2x4x4096, .f32⟩
  | .hbm, ⟨17, _⟩ => ⟨S4x2x4x4096, .f32⟩
  | .hbm, ⟨18, _⟩ => ⟨S4x2x4x4096x1, .f32⟩
  | .hbm, ⟨19, _⟩ => ⟨S4x2x4x4096x4096, .f32⟩
  | .hbm, ⟨20, _⟩ => ⟨S4x2x4x4096x4096, .f32⟩
  | .hbm, ⟨21, _⟩ => ⟨S4x2x4x4096x4096, .f32⟩
  | .hbm, ⟨22, _⟩ => ⟨S_, .f32⟩
  | .hbm, ⟨23, _⟩ => ⟨S4x2x4x4096, .f32⟩
  | .hbm, ⟨24, _⟩ => ⟨S4x2x4x4096x1, .f32⟩
  | .hbm, ⟨25, _⟩ => ⟨S4x2x4x4096x4096, .f32⟩
  | .hbm, ⟨26, _⟩ => ⟨S4x2x4x4096x4096, .f32⟩
  | .hbm, ⟨27, _⟩ => ⟨S4x2x128x4x4096, .f32⟩
  | .hbm, ⟨28, _⟩ => ⟨S4x4096x2x4x128, .f32⟩
  | .hbm, ⟨29, _⟩ => ⟨S4x4096x1024, .f32⟩
  | .hbm, ⟨30, _⟩ => ⟨S16384x1024, .f32⟩
  | .hbm, ⟨31, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel2.lean ====
abbrev S53248x2048 : Shape := ⟨2, ![53248, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩
abbrev S1 : Shape := ⟨1, ![1]⟩
abbrev S104 : Shape := ⟨1, ![104]⟩
abbrev S104x1 : Shape := ⟨2, ![104, 1]⟩
abbrev S1x8 : Shape := ⟨2, ![1, 8]⟩
abbrev S104x8 : Shape := ⟨2, ![104, 8]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 62
  | .vmem => 11
  | .smem => 2
  | _ => 0

abbrev bufTy : (tb : Table) → Fin (tcTables nBuf tb) → BufTy
  | .hbm, ⟨0, _⟩ => ⟨S53248x2048, .f32⟩
  | .hbm, ⟨1, _⟩ => ⟨S8, .i32⟩
  | .hbm, ⟨2, _⟩ => ⟨S8x2048x7168, .bf16⟩
  | .hbm, ⟨3, _⟩ => ⟨S8x2048x7168, .bf16⟩
  | .hbm, ⟨4, _⟩ => ⟨S8x7168x2048, .bf16⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S104, .i32⟩
  | .hbm, ⟨33, _⟩ => ⟨S104x1, .i32⟩
  | .hbm, ⟨34, _⟩ => ⟨S1x8, .i32⟩
  | .hbm, ⟨35, _⟩ => ⟨S104x8, .i32⟩
  | .hbm, ⟨36, _⟩ => ⟨S104x8, .i32⟩
  | .hbm, ⟨37, _⟩ => ⟨S104x8, .i1⟩
  | .hbm, ⟨38, _⟩ => ⟨S104x8, .i32⟩
  | .hbm, ⟨39, _⟩ => ⟨S_, .i32⟩
  | .hbm, ⟨40, _⟩ => ⟨S104, .i32⟩
  | .hbm, ⟨41, _⟩ => ⟨S_, .i32⟩
  | .hbm, ⟨42, _⟩ => ⟨S104, .i32⟩
  | .hbm, ⟨43, _⟩ => ⟨S104, .i32⟩
  | .hbm, ⟨44, _⟩ => ⟨S104, .i32⟩
  | .hbm, ⟨45, _⟩ => ⟨S_, .i32⟩
  | .hbm, ⟨46, _⟩ => ⟨S104, .i32⟩
  | .hbm, ⟨47, _⟩ => ⟨S104, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S104, .i32⟩
  | .hbm, ⟨61, _⟩ => ⟨S53248x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S104, .i32⟩
  | .local _ .smem, ⟨1, _⟩ => ⟨S1, .i32⟩
  | _, _ => ⟨S53248x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_c_7 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call2_v0 : Ref sig .tc := ⟨.hbm, 60, rfl⟩
abbrev main_v30 : Ref sig .tc := ⟨.hbm, 61, rfl⟩
abbrev main_v29 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![104, 7], ![false, false]⟩

abbrev pre0 : Pipeline.Prefetch sig := ⟨2, ![main_v29.idx, main_v6.idx], fun | 0 => main_v29.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond3 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S104.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S104.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S104.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S53248x2048 : Shape := ⟨2, ![53248, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩
abbrev S53248 : Shape := ⟨1, ![53248]⟩
abbrev S53248x1 : Shape := ⟨2, ![53248, 1]⟩
abbrev S1x8 : Shape := ⟨2, ![1, 8]⟩
abbrev S53248x8 : Shape := ⟨2, ![53248, 8]⟩
abbrev S8x7168x53248 : Shape := ⟨3, ![8, 7168, 53248]⟩
abbrev S8x53248x7168 : Shape := ⟨3, ![8, 53248, 7168]⟩
abbrev S8x53248x2048 : Shape := ⟨3, ![8, 53248, 2048]⟩

abbrev nBuf : Space → Nat
  | .hbm => 66
  | .vmem => 0
  | .smem => 0
  | _ => 0

abbrev bufTy : (tb : Table) → Fin (tcTables nBuf tb) → BufTy
  | .hbm, ⟨0, _⟩ => ⟨S53248x2048, .f32⟩
  | .hbm, ⟨1, _⟩ => ⟨S8, .i32⟩
  | .hbm, ⟨2, _⟩ => ⟨S8x2048x7168, .bf16⟩
  | .hbm, ⟨3, _⟩ => ⟨S8x2048x7168, .bf16⟩
  | .hbm, ⟨4, _⟩ => ⟨S8x7168x2048, .bf16⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S_, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S53248, .i32⟩
  | .hbm, ⟨33, _⟩ => ⟨S53248x1, .i32⟩
  | .hbm, ⟨34, _⟩ => ⟨S1x8, .i32⟩
  | .hbm, ⟨35, _⟩ => ⟨S53248x8, .i32⟩
  | .hbm, ⟨36, _⟩ => ⟨S53248x8, .i32⟩
  | .hbm, ⟨37, _⟩ => ⟨S53248x8, .i1⟩
  | .hbm, ⟨38, _⟩ => ⟨S53248x8, .i32⟩
  | .hbm, ⟨39, _⟩ => ⟨S_, .i32⟩
  | .hbm, ⟨40, _⟩ => ⟨S53248, .i32⟩
  | .hbm, ⟨41, _⟩ => ⟨S53248x1, .i32⟩
  | .hbm, ⟨42, _⟩ => ⟨S1x8, .i32⟩
  | .hbm, ⟨43, _⟩ => ⟨S53248x8, .i32⟩
  | .hbm, ⟨44, _⟩ => ⟨S53248x8, .i32⟩
  | .hbm, ⟨45, _⟩ => ⟨S53248x8, .i1⟩
  | .hbm, ⟨46, _⟩ => ⟨S53248x8, .f32⟩
  | .hbm, ⟨47, _⟩ => ⟨S8x2048x7168, .f32⟩
  | .hbm, ⟨48, _⟩ => ⟨S8x2048x7168, .f32⟩
  | .hbm, ⟨49, _⟩ => ⟨S8x7168x2048, .f32⟩
  | .hbm, ⟨50, _⟩ => ⟨S8x7168x53248, .f32⟩
  | .hbm, ⟨51, _⟩ => ⟨S8x53248x7168, .f32⟩
  | .hbm, ⟨52, _⟩ => ⟨S8x53248x7168, .f32⟩
  | .hbm, ⟨53, _⟩ => ⟨S8x53248x7168, .f32⟩
  | .hbm, ⟨54, _⟩ => ⟨S_, .f32⟩
  | .hbm, ⟨55, _⟩ => ⟨S8x53248x7168, .f32⟩
  | .hbm, ⟨56, _⟩ => ⟨S8x53248x7168, .f32⟩
  | .hbm, ⟨57, _⟩ => ⟨S_, .f32⟩
  | .hbm, ⟨58, _⟩ => ⟨S8x53248x7168, .f32⟩
  | .hbm, ⟨59, _⟩ => ⟨S8x53248x7168, .f32⟩
  | .hbm, ⟨60, _⟩ => ⟨S8x53248x7168, .f32⟩
  | .hbm, ⟨61, _⟩ => ⟨S8x7168x53248, .f32⟩
  | .hbm, ⟨62, _⟩ => ⟨S8x53248x7168, .f32⟩
  | .hbm, ⟨63, _⟩ => ⟨S8x53248x7168, .f32⟩
  | .hbm, ⟨64, _⟩ => ⟨S8x53248x2048, .f32⟩
  | .hbm, ⟨65, _⟩ => ⟨S53248x2048, .f32⟩
  | _, _ => ⟨S53248x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_call1_call0_c : Ref sig .tc := ⟨.hbm, 26, rfl⟩
abbrev main_call1_call0_v0 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩

abbrev nD : Nat := 1
abbrev τ : Topo := Topo.v7x

variable {F : FTy → Type} [FloatOps F]
-- ==== Proof.Softmax.lean ====
/- SOFTMAX TAKEN A TILE OF KEYS AT A TIME, over the extended reals: the running maximum, the running weighted sum, what one tile does to
   them, and that their quotient at the end is the softmax average of the values. The scores are real numbers; the values are any
   extended reals. -/
module

public import Idealize.ShloMosaic.PureOps.Ideal.Laws
public import Idealize.ShloMosaic.Lib.Pointwise

@[expose] public section

noncomputable section

namespace Cert.Softmax

open Idealize.ShloMosaic

/-- The scale of the scores times the logarithm of `e` to the base 2. -/
def cR : ℝ := (Real.sqrt 128)⁻¹ * (Real.log 2)⁻¹

/-- The weight of a score that lies `x` above the maximum: `2` to the power of `x` scaled. -/
def wt (x : EReal) : EReal := Ideal.exp2 (x * (cR : EReal))

/-- At a real difference the weight is the exponential of the scaled difference. -/
theorem wt_coe (t : ℝ) : wt (t : EReal) = ((Real.exp (t * (Real.sqrt 128)⁻¹) : ℝ) : EReal) := by
  unfold wt cR
  rw [← EReal.coe_mul, Ideal.exp2_coe]
  congr 1
  show (2 : ℝ) ^ (t * ((Real.sqrt 128)⁻¹ * (Real.log 2)⁻¹)) = _
  rw [Real.rpow_def_of_pos (by norm_num)]
  congr 1
  have : Real.log 2 ≠ 0 := Real.log_ne_zero_of_pos_of_ne_one (by norm_num) (by norm_num)
  field_simp

/-- A nonnegative real factor goes into a sum of extended reals. -/
theorem mul_sum_coe {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- The sum of real numbers, read as extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

section Run

variable {n : ℕ} (T : ℕ) (s : Fin n → ℝ) (v : Fin n → EReal)

/-- The keys of the first `k` tiles of `T` keys. -/
def keys (n T k : ℕ) : Finset (Fin n) := Finset.univ.filter fun j => j.val < T * k

/-- The maximum of the scores of the first `k` tiles; `⊥` before the first. -/
def mx (k : ℕ) : EReal := (keys n T k).sup fun j => (s j : EReal)

/-- The sum of the values of the first `k` tiles, weighted against the maximum so far. -/
def ac (k : ℕ) : EReal := ∑ j ∈ keys n T k, wt ((s j : EReal) - mx T s k) * v j

theorem keys_zero : keys n T 0 = ∅ := by
  unfold keys
  ext j
  simp

theorem mx_zero : mx T s 0 = ⊥ := by
  unfold mx
  rw [keys_zero, Finset.sup_empty]

theorem ac_zero : ac T s v 0 = 0 := by
  unfold ac
  rw [keys_zero, Finset.sum_empty]

/-- Key `x` of tile `k`. -/
def key (k : ℕ) (h : T * (k + 1) ≤ n) (x : Fin T) : Fin n := ⟨T * k + x.val, by have := x.isLt; rw [Nat.mul_succ] at h; omega⟩

theorem key_inj (k : ℕ) (h : T * (k + 1) ≤ n) : Function.Injective (key T k h) := fun a b e => by
  have := congrArg Fin.val e
  unfold key at this
  exact Fin.ext (by simpa using this)

/-- The first `k + 1` tiles are the first `k` and tile `k`. -/
theorem keys_succ (k : ℕ) (h : T * (k + 1) ≤ n) :
    keys n T (k + 1) = (keys n T k).disjUnion (Finset.univ.map ⟨key T k h, key_inj T k h⟩) (by
      rw [Finset.disjoint_left]
      intro j hj hj'
      rw [keys, Finset.mem_filter] at hj
      rw [Finset.mem_map] at hj'
      obtain ⟨x, -, rfl⟩ := hj'
      have : T * k + x.val < T * k := hj.2
      omega) := by
  ext j
  simp only [keys, Finset.mem_filter, Finset.mem_univ, true_and, Finset.mem_disjUnion, Finset.mem_map, Function.Embedding.coeFn_mk]
  rw [Nat.mul_succ] at h ⊢
  constructor
  · intro hj
    by_cases hk : j.val < T * k
    · exact Or.inl hk
    · exact Or.inr ⟨⟨j.val - T * k, by omega⟩, Fin.ext (by show T * k + (j.val - T * k) = j.val; omega)⟩
  · rintro (hj | ⟨x, rfl⟩)
    · omega
    · have := x.isLt
      show T * k + x.val < _
      omega

/-- One tile's effect on the maximum. -/
theorem mx_succ (k : ℕ) (h : T * (k + 1) ≤ n) :
    max (mx T s k) (Finset.univ.fold max ⊥ fun x : Fin T => (s (key T k h x) : EReal)) = mx T s (k + 1) := by
  unfold mx
  rw [keys_succ T k h, Finset.disjUnion_eq_union, Finset.sup_union, Finset.sup_map]
  rfl

/-- The maximum of one key or more is a real number. -/
theorem mx_real (k : ℕ) (hk : (keys n T k).Nonempty) : ∃ μ : ℝ, mx T s k = (μ : EReal) := by
  obtain ⟨j, -, hj⟩ := Finset.exists_mem_eq_sup _ hk fun j => (s j : EReal)
  exact ⟨s j, hj⟩

/-- One tile's effect on the weighted sum: the old sum is rescaled from the old maximum to the new one. -/
theorem ac_succ (k : ℕ) (h : T * (k + 1) ≤ n) :
    wt (mx T s k - mx T s (k + 1)) * ac T s v k
        + ∑ x : Fin T, wt ((s (key T k h x) : EReal) - mx T s (k + 1)) * v (key T k h x)
      = ac T s v (k + 1) := by
  have e : ac T s v (k + 1) = ∑ j ∈ keys n T k, wt ((s j : EReal) - mx T s (k + 1)) * v j
      + ∑ x : Fin T, wt ((s (key T k h x) : EReal) - mx T s (k + 1)) * v (key T k h x) := by
    unfold ac
    rw [keys_succ T k h, Finset.sum_disjUnion, Finset.sum_map]
    rfl
  rw [e]
  congr 1
  rcases (keys n T k).eq_empty_or_nonempty with he | hne
  · unfold ac
    rw [he, Finset.sum_empty, Finset.sum_empty, mul_zero]
  · obtain ⟨μ, hμ⟩ := mx_real T s k hne
    obtain ⟨μ', hμ'⟩ := mx_real T s (k + 1) (by
      rw [keys_succ T k h, Finset.disjUnion_eq_union]
      exact hne.mono Finset.subset_union_left)
    unfold ac
    rw [hμ, hμ', ← EReal.coe_sub, wt_coe, mul_sum_coe _ (Real.exp_pos _).le]
    refine Finset.sum_congr rfl fun j _ => ?_
    rw [← EReal.coe_sub, ← EReal.coe_sub, wt_coe, wt_coe, ← mul_assoc, ← EReal.coe_mul, ← Real.exp_add]
    congr 3
    ring

/-- THE QUOTIENT: after the last tile, the weighted sum of the values over the weighted sum of ones is the softmax average of the
    values, written with the scores divided by the square root of 128 first. -/
theorem quotient (hn : 0 < n) (k : ℕ) (hk : T * k = n) :
    Ideal.div (ac T s v k) (ac T s (fun _ => 1) k)
      = ∑ j : Fin n, v j * Ideal.div
          (Ideal.exp (Ideal.div (s j : EReal) (Ideal.sqrt ((128 : ℝ) : EReal))
            - max ⊥ (Finset.univ.fold max ⊥ fun i : Fin n => Ideal.div (s i : EReal) (Ideal.sqrt ((128 : ℝ) : EReal)))))
          (0 + ∑ i : Fin n, Ideal.exp (Ideal.div (s i : EReal) (Ideal.sqrt ((128 : ℝ) : EReal))
            - max ⊥ (Finset.univ.fold max ⊥ fun i : Fin n => Ideal.div (s i : EReal) (Ideal.sqrt ((128 : ℝ) : EReal))))) := by
  have hall : keys n T k = Finset.univ := by
    unfold keys
    rw [hk]
    ext j
    simp
  have hne : (keys n T k).Nonempty := by
    rw [hall]
    exact ⟨⟨0, hn⟩, Finset.mem_univ _⟩
  obtain ⟨μ, hμ⟩ := mx_real T s k hne
  have h128 : (0 : ℝ) < Real.sqrt 128 := Real.sqrt_pos.mpr (by norm_num)
  have hsq : Ideal.sqrt ((128 : ℝ) : EReal) = ((Real.sqrt 128 : ℝ) : EReal) := by
    show (if (128 : ℝ) < 0 then (⊥ : EReal) else ((Real.sqrt 128 : ℝ) : EReal)) = _
    rw [if_neg (by norm_num)]
  have hdiv : ∀ t : ℝ, Ideal.div (t : EReal) (Ideal.sqrt ((128 : ℝ) : EReal)) = ((t * (Real.sqrt 128)⁻¹ : ℝ) : EReal) := fun t => by
    rw [hsq, Ideal.div_coe h128.ne', ← EReal.coe_mul, one_div]
  have hmax : max ⊥ (Finset.univ.fold max ⊥ fun i : Fin n => Ideal.div (s i : EReal) (Ideal.sqrt ((128 : ℝ) : EReal)))
      = ((μ * (Real.sqrt 128)⁻¹ : ℝ) : EReal) := by
    rw [max_eq_right bot_le]
    have hle : ∀ i : Fin n, s i ≤ μ := fun i => by
      have : (s i : EReal) ≤ mx T s k := Finset.le_sup (f := fun j => (s j : EReal)) (by rw [hall]; exact Finset.mem_univ i)
      rw [hμ] at this
      exact_mod_cast this
    show Finset.univ.sup (fun i : Fin n => Ideal.div (s i : EReal) (Ideal.sqrt ((128 : ℝ) : EReal))) = _
    apply le_antisymm
    · refine Finset.sup_le fun i _ => ?_
      rw [hdiv]
      exact_mod_cast mul_le_mul_of_nonneg_right (hle i) (inv_pos.mpr h128).le
    · obtain ⟨j, -, hj⟩ := Finset.exists_mem_eq_sup _ hne fun j => (s j : EReal)
      have hj' : (μ : EReal) = (s j : EReal) := hμ.symm.trans hj
      have hμj : μ = s j := by exact_mod_cast hj'
      rw [hμj, ← hdiv (s j)]
      exact Finset.le_sup (f := fun i : Fin n => Ideal.div (s i : EReal) (Ideal.sqrt ((128 : ℝ) : EReal))) (Finset.mem_univ j)
  rw [hmax]
  have hexp : ∀ j : Fin n, Ideal.exp (Ideal.div (s j : EReal) (Ideal.sqrt ((128 : ℝ) : EReal)) - ((μ * (Real.sqrt 128)⁻¹ : ℝ) : EReal))
      = ((Real.exp ((s j - μ) * (Real.sqrt 128)⁻¹) : ℝ) : EReal) := fun j => by
    rw [hdiv, ← EReal.coe_sub, ← sub_mul]
    rfl
  have hw : ∀ j : Fin n, wt ((s j : EReal) - mx T s k) = ((Real.exp ((s j - μ) * (Real.sqrt 128)⁻¹) : ℝ) : EReal) := fun j => by
    rw [hμ, ← EReal.coe_sub, wt_coe]
  unfold ac
  rw [hall]
  simp only [hexp, hw, mul_one, zero_add]
  rw [sum_coe]
  have hl : (0 : ℝ) < ∑ i : Fin n, Real.exp ((s i - μ) * (Real.sqrt 128)⁻¹) :=
    Finset.sum_pos (fun i _ => Real.exp_pos _) ⟨⟨0, hn⟩, Finset.mem_univ _⟩
  generalize (∑ i : Fin n, Real.exp ((s i - μ) * (Real.sqrt 128)⁻¹)) = L at hl
  rw [Ideal.div_coe hl.ne', mul_comm, mul_sum_coe _ (one_div_pos.mpr hl).le]
  refine Finset.sum_congr rfl fun j _ => ?_
  rw [Ideal.div_coe hl.ne', ← mul_assoc, mul_comm, mul_comm ((1 / L : ℝ) : EReal)]

end Run

end Cert.Softmax

end
-- ==== Proof.Pays.lean ====
/- WHAT THE ATTENTION BODY'S PAYLOADS ARE AT AN INDEX, over the extended reals: the scores of a tile of keys, the new maximum and the
   new weighted sum. The kernel keeps a row's maximum in all 128 lanes of a row; here that is a hypothesis. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem

/-- Four copies of a lane-constant tile side by side are lane-constant. -/
theorem cat4 (g : Fin 1024 → EReal) (h) :
    concatenate (α := EReal) S1024x512 1 [⟨S1024x128, fun j => g (j 0)⟩, ⟨S1024x128, fun j => g (j 0)⟩, ⟨S1024x128, fun j => g (j 0)⟩,
      ⟨S1024x128, fun j => g (j 0)⟩] h = fun j => g (j 0) := by
  funext j
  idx_vars j
  pointwise
  split
  · rfl
  · split
    · rfl
    · split <;> rfl

/-- Two copies of a lane-constant tile side by side are lane-constant. -/
theorem cat2 (g : Fin 1024 → EReal) (h) :
    concatenate (α := EReal) S1024x256 1 [⟨S1024x128, fun j => g (j 0)⟩, ⟨S1024x128, fun j => g (j 0)⟩] h = fun j => g (j 0) := by
  funext j
  idx_vars j
  pointwise
  split <;> rfl

/-- The word of minus infinity is `⊥`. -/
theorem ofBits_neg_inf : Ideal.ofBits .f32 0xFF800000#32 = ⊥ := by
  simp [Ideal.ofBits, Ideal.ieee]

/-- The named constant `c`. -/
theorem named_c : (Named.named κ "c" 0x3E0293EE#32 : Ideal .f32) = ((Softmax.cR : ℝ) : EReal) :=
  IdealRules.named_const.ideal_named_scalar _ _ _ _ rfl

/-- The score of a query row against key `j` of the tile. -/
def score (K : Vec Ideal S512x128 .bf16) (q : Vec Ideal S1024x128 .bf16) (r : Fin 1024) (j : Fin 512) : EReal :=
  ∑ d : Fin 128, q (ix2 r d) * K (ix2 j d)

/-- The new maximum of a row. -/
def mNew (K : Vec Ideal S512x128 .bf16) (q : Vec Ideal S1024x128 .bf16) (μ : Fin 1024 → EReal) (r : Fin 1024) : EReal :=
  max (μ r) (Finset.univ.fold max ⊥ fun j : Fin 512 => score K q r j)

/-- The new weighted sum of a row, at a column. -/
def aNew (K : Vec Ideal S512x128 .bf16) (V : Vec Ideal S512x256 .bf16) (q : Vec Ideal S1024x128 .bf16) (μ : Fin 1024 → EReal)
    (a : Vec Ideal S1024x256 .f32) (r : Fin 1024) (l : Fin 256) : EReal :=
  Softmax.wt (μ r - mNew K q μ r) * a (ix2 r l)
    + ∑ j : Fin 512, Softmax.wt (score K q r j - mNew K q μ r) * V (ix2 j l)

theorem pay4_at (K : Vec Ideal S512x128 .bf16) (q : Vec Ideal S1024x128 .bf16) (r : Fin 1024) (l : Fin 512) :
    k0_pay4 (F := Ideal) K q (ix2 r l) = score K q r l := by
  unfold score
  pointwise [k0_pay4, k0_pay2]

theorem pay5_eq (K : Vec Ideal S512x128 .bf16) (q : Vec Ideal S1024x128 .bf16) (m : Vec Ideal S1024x128 .f32) (μ : Fin 1024 → EReal)
    (hm : ∀ r l, m (ix2 r l) = μ r) :
    k0_pay5 (F := Ideal) K q m = fun j => mNew K q μ (j 0) := by
  funext j
  idx_vars j
  unfold mNew
  pointwise [k0_pay5, hm, pay4_at, ofBits_neg_inf]

theorem exp2_at {s : Shape} (x : FVec Ideal s .f32) (j : s.Idx) : exp2 x j = Ideal.exp2 (x j) := rfl

theorem pay6_at (K : Vec Ideal S512x128 .bf16) (V : Vec Ideal S512x256 .bf16) (q : Vec Ideal S1024x128 .bf16)
    (m : Vec Ideal S1024x128 .f32) (a : Vec Ideal S1024x256 .f32) (μ : Fin 1024 → EReal)
    (hm : ∀ r l, m (ix2 r l) = μ r) (r : Fin 1024) (l : Fin 256) :
    k0_pay6 (F := Ideal) K V q m a (ix2 r l) = aNew K V q μ a r l := by
  unfold k0_pay6
  generalize hT : concatenate S1024x512 1 [⟨S1024x128, k0_pay5 (F := Ideal) K q m⟩, ⟨S1024x128, k0_pay5 (F := Ideal) K q m⟩,
    ⟨S1024x128, k0_pay5 (F := Ideal) K q m⟩, ⟨S1024x128, k0_pay5 (F := Ideal) K q m⟩]
    concatenates_S1024x128_S1024x128_S1024x128_S1024x128_S1024x512_d1 = T
  generalize hA : exp2 (mulf (subf m (k0_pay5 (F := Ideal) K q m)) (broadcast S1024x128 (Named.named κ "c" 0x3E0293EE#32))) = A
  have hA' : A = fun j => Softmax.wt (μ (j 0) - mNew K q μ (j 0)) := by
    rw [← hA]
    funext j
    idx_vars j
    rw [pay5_eq K q m μ hm, named_c]
    show Ideal.exp2 ((m (ix2 j0 j1) - mNew K q μ j0) * _) = _
    rw [hm]
    rfl
  have hT' : ∀ r j, T (ix2 r j) = mNew K q μ r := fun r j => by
    rw [← hT, pay5_eq K q m μ hm]
    exact congrFun (cat4 (mNew K q μ) _) (ix2 r j)
  generalize hB : concatenate S1024x256 1 [⟨S1024x128, A⟩, ⟨S1024x128, A⟩] concatenates_S1024x128_S1024x128_S1024x256_d1 = B
  have hB' : ∀ r j, B (ix2 r j) = Softmax.wt (μ r - mNew K q μ r) := fun r j => by
    rw [← hB, hA']
    exact congrFun (cat2 (fun r => Softmax.wt (μ r - mNew K q μ r)) _) (ix2 r j)
  rw [named_c]
  unfold aNew Softmax.wt
  pointwise [pay4_at, exp2_at, k0_pay3, hT', hB', Softmax.wt]

end Cert.KernelIdeal.Value
end
-- ==== Proof.Trip.lean ====
/- ONE TRIP OF THE ATTENTION BODY'S LOOP OVER TILES OF KEYS: what it leaves in the buffer of maxima and in the buffer of weighted sums,
   read at an index, head by head. The rows of head `h` are rows `1024 h` to `1024 h + 1023` of both buffers. -/
module

public import proofs.«01_k».proof.Proof.Gen.KernelIdeal.Loops
public import proofs.«01_k».proof.Proof.Pays
public import Idealize.ShloMosaic.Lib.WritesUnit
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

/-- A load of a rectangle of unit strides, read at an index. -/
theorem readAt_ix2 {sig : RefSig} {κ : Kind} {sp : Space} {e : EltTy} {Val : EltTy → Type} {n0 n1 s0 s1 : ℕ}
    (v : View sig κ sp ⟨2, ![n0, n1]⟩ e) (X : v.ty.Contents Val) (off : Fin 2 → ℕ)
    (inb : ∀ a : Fin 2, off a + (![s0, s1] : Fin 2 → ℕ) a ≤ (![n0, n1] : Fin 2 → ℕ) a) (o0 o1 : ℕ) (ho : off = ![o0, o1])
    (a : Fin s0) (b : Fin s1) (h0 : o0 + a.val < n0) (h1 : o1 + b.val < n1) :
    v.readAt Val (Rect.unit (s := ⟨2, ![n0, n1]⟩) off ![s0, s1] inb).toLoadRect X (ix2 a b)
      = v.read Val X (ix2 (⟨o0 + a.val, h0⟩ : Fin n0) (⟨o1 + b.val, h1⟩ : Fin n1)) := by
  subst ho
  refine congrArg (v.read Val X) (funext fun x => Fin.ext ?_)
  match x with
  | ⟨0, _⟩ => show o0 + 1 * a.val = o0 + a.val; omega
  | ⟨1, _⟩ => show o1 + 1 * b.val = o1 + b.val; omega

/-- Row `r` of head `h` in the buffers of maxima and sums. -/
def row (h : Fin 4) (r : Fin 1024) : Fin 4096 := ⟨1024 * h.val + r.val, by have := h.isLt; have := r.isLt; omega⟩

/-- Tile `k` of the keys. -/
def Kt (x4 : Vec Ideal S4096x128 .bf16) (k : Fin 8) : Vec Ideal S512x128 .bf16 := fun j =>
  x4 (ix2 (⟨512 * k.val + (j 0).val, by have h := (j 0).isLt; change (j 0).val < 512 at h; have := k.isLt; omega⟩ : Fin 4096) (j 1))

/-- Tile `k` of the values. -/
def Vt (x5 : Vec Ideal S4096x256 .bf16) (k : Fin 8) : Vec Ideal S512x256 .bf16 := fun j =>
  x5 (ix2 (⟨512 * k.val + (j 0).val, by have h := (j 0).isLt; change (j 0).val < 512 at h; have := k.isLt; omega⟩ : Fin 4096) (j 1))

/-- The queries of head `h`. -/
def qh (x3 : Vec Ideal S1024x512 .bf16) (h : Fin 4) : Vec Ideal S1024x128 .bf16 := fun j =>
  x3 (ix2 (j 0) (⟨128 * h.val + (j 1).val, by have hj := (j 1).isLt; change (j 1).val < 128 at hj; have := h.isLt; omega⟩ : Fin 512))

/-- The weighted sums of head `h`. -/
def ah (a : Vec Ideal S4096x256 .f32) (h : Fin 4) : Vec Ideal S1024x256 .f32 := fun j => a (ix2 (row h (j 0)) (j 1))

/-- A trip of the loop as a number below 8. -/
def tk (k : Fin k0_t1_loop.trips) : Fin 8 := ⟨k.val, Nat.lt_of_lt_of_le k.isLt k0_t1_abs.2.1⟩

/-- The stored maxima are the new maxima. -/
theorem pay7_eq (K : Vec Ideal S512x128 .bf16) (q : Vec Ideal S1024x128 .bf16) (m : Vec Ideal S1024x128 .f32) :
    k0_pay7 (F := Ideal) K q m = k0_pay5 (F := Ideal) K q m := by
  unfold k0_pay7 k0_pay5
  exact shapeCast_self _ _

section Trip

variable (𝒱 : Variants) (c : Dev nD) (bd : Option 𝒱.V) (i : grid0.Coords) (arg3 : Memref sig .tc .vmem S1024x512 .bf16) (harg3 : arg3.IsWhole)
  (arg4 : Memref sig .tc .vmem S4096x128 .bf16) (harg4 : arg4.IsWhole) (arg5 : Memref sig .tc .vmem S4096x256 .bf16) (harg5 : arg5.IsWhole)
  (arg6 : Memref sig .tc .vmem S1024x512 .bf16) (harg6 : arg6.IsWhole) (arg7 : Memref sig .tc .vmem S4096x128 .f32) (harg7 : arg7.IsWhole)
  (arg8 : Memref sig .tc .vmem S4096x256 .f32) (harg8 : arg8.IsWhole) (X3 : BufTy.Contents (Elt Ideal) arg3.view.ty)
  (X4 : BufTy.Contents (Elt Ideal) arg4.view.ty) (X5 : BufTy.Contents (Elt Ideal) arg5.view.ty) (k : Fin k0_t1_loop.trips)
  (f7 : BufTy.Contents (Elt Ideal) arg7.view.ty) (f8 : BufTy.Contents (Elt Ideal) arg8.view.ty)

/-- The load of a tile of keys. -/
abbrev ldK : Vec Ideal S512x128 .bf16 :=
  arg4.view.readAt (Elt Ideal) (Rect.unit (s := S4096x128) (k0_off1 k) S512x128.size (k0_off1_inb k)).toLoadRect X4

/-- The load of a tile of values. -/
abbrev ldV : Vec Ideal S512x256 .bf16 :=
  arg5.view.readAt (Elt Ideal) (Rect.unit (s := S4096x256) (k0_off2 k) S512x256.size (k0_off2_inb k)).toLoadRect X5

theorem ldK_eq : ldK arg4 X4 k = Kt (arg4.view.read (Elt Ideal) X4) (tk k) := by
  funext j
  idx_vars j
  have h0 := j0.isLt
  have h1 := j1.isLt
  have hk := (tk k).isLt
  refine (readAt_ix2 arg4.view X4 (k0_off1 k) (k0_off1_inb k) (512 * k.val) 0 (k0_off1_eq k) j0 j1 (by change k.val < 8 at hk; omega) (by omega)).trans ?_
  refine congrArg (arg4.view.read (Elt Ideal) X4) ((ix2_inj ..).2 ⟨rfl, Fin.ext (Nat.zero_add _)⟩)

theorem ldV_eq : ldV arg5 X5 k = Vt (arg5.view.read (Elt Ideal) X5) (tk k) := by
  funext j
  idx_vars j
  have h0 := j0.isLt
  have h1 := j1.isLt
  have hk := (tk k).isLt
  refine (readAt_ix2 arg5.view X5 (k0_off2 k) (k0_off2_inb k) (512 * k.val) 0 (k0_off2_eq k) j0 j1 (by change k.val < 8 at hk; omega) (by omega)).trans ?_
  refine congrArg (arg5.view.read (Elt Ideal) X5) ((ix2_inj ..).2 ⟨rfl, Fin.ext (Nat.zero_add _)⟩)

theorem ldQ_eq (h : Fin 4) (o : ℕ) (ho : o = 128 * h.val) (inb) :
    (arg3.view.readAt (Elt Ideal) (Rect.unit (s := S1024x512) ![0, o] ![1024, 128] inb).toLoadRect X3 : Vec Ideal S1024x128 .bf16)
      = qh (arg3.view.read (Elt Ideal) X3) h := by
  subst ho
  funext j
  idx_vars j
  have h0 := j0.isLt
  have h1 := j1.isLt
  have hh := h.isLt
  refine (readAt_ix2 arg3.view X3 _ inb 0 (128 * h.val) rfl j0 j1 (by omega) (by omega)).trans ?_
  exact congrArg (arg3.view.read (Elt Ideal) X3) ((ix2_inj ..).2 ⟨Fin.ext (Nat.zero_add _), rfl⟩)

theorem ldA_eq (h : Fin 4) (o : ℕ) (ho : o = 1024 * h.val) (inb) :
    (arg8.view.readAt (Elt Ideal) (Rect.unit (s := S4096x256) ![o, 0] ![1024, 256] inb).toLoadRect f8 : Vec Ideal S1024x256 .f32)
      = ah (arg8.view.read (Elt Ideal) f8) h := by
  subst ho
  funext j
  idx_vars j
  have h0 := j0.isLt
  have h1 := j1.isLt
  have hh := h.isLt
  refine (readAt_ix2 arg8.view f8 _ inb (1024 * h.val) 0 rfl j0 j1 (by omega) (by omega)).trans ?_
  exact congrArg (arg8.view.read (Elt Ideal) f8) ((ix2_inj ..).2 ⟨rfl, Fin.ext (Nat.zero_add _)⟩)

theorem ldM_at (μ : Fin 4096 → EReal) (hM : ∀ p l, arg7.view.read (Elt Ideal) f7 (ix2 p l) = μ p) (h : Fin 4) (o : ℕ) (ho : o = 1024 * h.val) (inb)
    (r : Fin 1024) (l : Fin 128) :
    (arg7.view.readAt (Elt Ideal) (Rect.unit (s := S4096x128) ![o, 0] ![1024, 128] inb).toLoadRect f7 : Vec Ideal S1024x128 .f32) (ix2 r l)
      = μ (row h r) := by
  subst ho
  have h0 := r.isLt
  have h1 := l.isLt
  have hh := h.isLt
  refine (readAt_ix2 arg7.view f7 _ inb (1024 * h.val) 0 rfl r l (by omega) (by omega)).trans ?_
  exact hM _ _

/-- The weighted sums of head 0 after a trip. -/
theorem tripA0 (μ : Fin 4096 → EReal) (hM : ∀ p l, arg7.view.read (Elt Ideal) f7 (ix2 p l) = μ p) (r : Fin 1024) (l : Fin 256) :
    arg8.view.read (Elt Ideal) (arg8.view.writes (Elt Ideal) f8 (tripL_k0_t1 (F := Ideal) 𝒱 c bd i arg3 harg3 arg4 harg4 arg5 harg5 arg6 harg6 arg7 harg7 arg8 harg8 X3 X4 X5 k f7 f8).2) (ix2 (row 0 r) l)
      = aNew (Kt (arg4.view.read (Elt Ideal) X4) (tk k)) (Vt (arg5.view.read (Elt Ideal) X5) (tk k)) (qh (arg3.view.read (Elt Ideal) X3) 0)
        (fun r => μ (row 0 r)) (ah (arg8.view.read (Elt Ideal) f8) 0) r l := by
  have hr := r.isLt
  unfold tripL_k0_t1 trip_k0_t1
  dsimp only
  refine (View.read_writes_cons_rows_of_not_mem arg8.view f8 (o := 3072) (W := 1024) _ _ _ _ rfl rfl (by show 1024 * 0 + r.val < _ ∨ _ ≤ 1024 * 0 + r.val; omega)).trans ?_
  refine (View.read_writes_cons_rows_of_not_mem arg8.view f8 (o := 2048) (W := 1024) _ _ _ _ rfl rfl (by show 1024 * 0 + r.val < _ ∨ _ ≤ 1024 * 0 + r.val; omega)).trans ?_
  refine (View.read_writes_cons_rows_of_not_mem arg8.view f8 (o := 1024) (W := 1024) _ _ _ _ rfl rfl (by show 1024 * 0 + r.val < _ ∨ _ ≤ 1024 * 0 + r.val; omega)).trans ?_
  refine (View.read_writes_cons_rows_of_mem arg8.view f8 (o := 0) _ _ _ (ix2 (row 0 r) l) (ix2 r l) rfl rfl rfl).trans ?_
  refine Eq.trans (show _ = k0_pay6 (F := Ideal) (ldK arg4 X4 k) (ldV arg5 X5 k)
      (arg3.view.readAt (Elt Ideal) (Rect.unit (s := S1024x512) ![0, 0] ![1024, 128] inb_S1024x512_S1024x128_0_0).toLoadRect X3)
      (arg7.view.readAt (Elt Ideal) (Rect.unit (s := S4096x128) ![0, 0] ![1024, 128] inb_S4096x128_S1024x128_0_0).toLoadRect f7)
      (arg8.view.readAt (Elt Ideal) (Rect.unit (s := S4096x256) ![0, 0] ![1024, 256] inb_S4096x256_S1024x256_0_0).toLoadRect f8) (ix2 r l) from rfl) ?_
  rw [pay6_at _ _ _ _ _ (fun r => μ (row 0 r)) (ldM_at arg7 f7 μ hM 0 0 rfl _), ldK_eq, ldV_eq, ldQ_eq arg3 X3 0 0 rfl, ldA_eq arg8 f8 0 0 rfl]

/-- The weighted sums of head 1 after a trip. -/
theorem tripA1 (μ : Fin 4096 → EReal) (hM : ∀ p l, arg7.view.read (Elt Ideal) f7 (ix2 p l) = μ p) (r : Fin 1024) (l : Fin 256) :
    arg8.view.read (Elt Ideal) (arg8.view.writes (Elt Ideal) f8 (tripL_k0_t1 (F := Ideal) 𝒱 c bd i arg3 harg3 arg4 harg4 arg5 harg5 arg6 harg6 arg7 harg7 arg8 harg8 X3 X4 X5 k f7 f8).2) (ix2 (row 1 r) l)
      = aNew (Kt (arg4.view.read (Elt Ideal) X4) (tk k)) (Vt (arg5.view.read (Elt Ideal) X5) (tk k)) (qh (arg3.view.read (Elt Ideal) X3) 1)
        (fun r => μ (row 1 r)) (ah (arg8.view.read (Elt Ideal) f8) 1) r l := by
  have hr := r.isLt
  unfold tripL_k0_t1 trip_k0_t1
  dsimp only
  refine (View.read_writes_cons_rows_of_not_mem arg8.view f8 (o := 3072) (W := 1024) _ _ _ _ rfl rfl (by show 1024 * 1 + r.val < _ ∨ _ ≤ 1024 * 1 + r.val; omega)).trans ?_
  refine (View.read_writes_cons_rows_of_not_mem arg8.view f8 (o := 2048) (W := 1024) _ _ _ _ rfl rfl (by show 1024 * 1 + r.val < _ ∨ _ ≤ 1024 * 1 + r.val; omega)).trans ?_
  refine (View.read_writes_cons_rows_of_mem arg8.view f8 (o := 1024) _ _ _ (ix2 (row 1 r) l) (ix2 r l) rfl rfl rfl).trans ?_
  refine Eq.trans (show _ = k0_pay6 (F := Ideal) (ldK arg4 X4 k) (ldV arg5 X5 k)
      (arg3.view.readAt (Elt Ideal) (Rect.unit (s := S1024x512) ![0, 128] ![1024, 128] inb_S1024x512_S1024x128_0_128).toLoadRect X3)
      (arg7.view.readAt (Elt Ideal) (Rect.unit (s := S4096x128) ![1024, 0] ![1024, 128] inb_S4096x128_S1024x128_1024_0).toLoadRect f7)
      (arg8.view.readAt (Elt Ideal) (Rect.unit (s := S4096x256) ![1024, 0] ![1024, 256] inb_S4096x256_S1024x256_1024_0).toLoadRect f8) (ix2 r l) from rfl) ?_
  rw [pay6_at _ _ _ _ _ (fun r => μ (row 1 r)) (ldM_at arg7 f7 μ hM 1 1024 rfl _), ldK_eq, ldV_eq, ldQ_eq arg3 X3 1 128 rfl, ldA_eq arg8 f8 1 1024 rfl]

/-- The weighted sums of head 2 after a trip. -/
theorem tripA2 (μ : Fin 4096 → EReal) (hM : ∀ p l, arg7.view.read (Elt Ideal) f7 (ix2 p l) = μ p) (r : Fin 1024) (l : Fin 256) :
    arg8.view.read (Elt Ideal) (arg8.view.writes (Elt Ideal) f8 (tripL_k0_t1 (F := Ideal) 𝒱 c bd i arg3 harg3 arg4 harg4 arg5 harg5 arg6 harg6 arg7 harg7 arg8 harg8 X3 X4 X5 k f7 f8).2) (ix2 (row 2 r) l)
      = aNew (Kt (arg4.view.read (Elt Ideal) X4) (tk k)) (Vt (arg5.view.read (Elt Ideal) X5) (tk k)) (qh (arg3.view.read (Elt Ideal) X3) 2)
        (fun r => μ (row 2 r)) (ah (arg8.view.read (Elt Ideal) f8) 2) r l := by
  have hr := r.isLt
  unfold tripL_k0_t1 trip_k0_t1
  dsimp only
  refine (View.read_writes_cons_rows_of_not_mem arg8.view f8 (o := 3072) (W := 1024) _ _ _ _ rfl rfl (by show 1024 * 2 + r.val < _ ∨ _ ≤ 1024 * 2 + r.val; omega)).trans ?_
  refine (View.read_writes_cons_rows_of_mem arg8.view f8 (o := 2048) _ _ _ (ix2 (row 2 r) l) (ix2 r l) rfl rfl rfl).trans ?_
  refine Eq.trans (show _ = k0_pay6 (F := Ideal) (ldK arg4 X4 k) (ldV arg5 X5 k)
      (arg3.view.readAt (Elt Ideal) (Rect.unit (s := S1024x512) ![0, 256] ![1024, 128] inb_S1024x512_S1024x128_0_256).toLoadRect X3)
      (arg7.view.readAt (Elt Ideal) (Rect.unit (s := S4096x128) ![2048, 0] ![1024, 128] inb_S4096x128_S1024x128_2048_0).toLoadRect f7)
      (arg8.view.readAt (Elt Ideal) (Rect.unit (s := S4096x256) ![2048, 0] ![1024, 256] inb_S4096x256_S1024x256_2048_0).toLoadRect f8) (ix2 r l) from rfl) ?_
  rw [pay6_at _ _ _ _ _ (fun r => μ (row 2 r)) (ldM_at arg7 f7 μ hM 2 2048 rfl _), ldK_eq, ldV_eq, ldQ_eq arg3 X3 2 256 rfl, ldA_eq arg8 f8 2 2048 rfl]

/-- The weighted sums of head 3 after a trip. -/
theorem tripA3 (μ : Fin 4096 → EReal) (hM : ∀ p l, arg7.view.read (Elt Ideal) f7 (ix2 p l) = μ p) (r : Fin 1024) (l : Fin 256) :
    arg8.view.read (Elt Ideal) (arg8.view.writes (Elt Ideal) f8 (tripL_k0_t1 (F := Ideal) 𝒱 c bd i arg3 harg3 arg4 harg4 arg5 harg5 arg6 harg6 arg7 harg7 arg8 harg8 X3 X4 X5 k f7 f8).2) (ix2 (row 3 r) l)
      = aNew (Kt (arg4.view.read (Elt Ideal) X4) (tk k)) (Vt (arg5.view.read (Elt Ideal) X5) (tk k)) (qh (arg3.view.read (Elt Ideal) X3) 3)
        (fun r => μ (row 3 r)) (ah (arg8.view.read (Elt Ideal) f8) 3) r l := by
  have hr := r.isLt
  unfold tripL_k0_t1 trip_k0_t1
  dsimp only
  refine (View.read_writes_cons_rows_of_mem arg8.view f8 (o := 3072) _ _ _ (ix2 (row 3 r) l) (ix2 r l) rfl rfl rfl).trans ?_
  refine Eq.trans (show _ = k0_pay6 (F := Ideal) (ldK arg4 X4 k) (ldV arg5 X5 k)
      (arg3.view.readAt (Elt Ideal) (Rect.unit (s := S1024x512) ![0, 384] ![1024, 128] inb_S1024x512_S1024x128_0_384).toLoadRect X3)
      (arg7.view.readAt (Elt Ideal) (Rect.unit (s := S4096x128) ![3072, 0] ![1024, 128] inb_S4096x128_S1024x128_3072_0).toLoadRect f7)
      (arg8.view.readAt (Elt Ideal) (Rect.unit (s := S4096x256) ![3072, 0] ![1024, 256] inb_S4096x256_S1024x256_3072_0).toLoadRect f8) (ix2 r l) from rfl) ?_
  rw [pay6_at _ _ _ _ _ (fun r => μ (row 3 r)) (ldM_at arg7 f7 μ hM 3 3072 rfl _), ldK_eq, ldV_eq, ldQ_eq arg3 X3 3 384 rfl, ldA_eq arg8 f8 3 3072 rfl]

/-- The maxima of head 0 after a trip. -/
theorem tripM0 (μ : Fin 4096 → EReal) (hM : ∀ p l, arg7.view.read (Elt Ideal) f7 (ix2 p l) = μ p) (r : Fin 1024) (l : Fin 128) :
    arg7.view.read (Elt Ideal) (arg7.view.writes (Elt Ideal) f7 (tripL_k0_t1 (F := Ideal) 𝒱 c bd i arg3 harg3 arg4 harg4 arg5 harg5 arg6 harg6 arg7 harg7 arg8 harg8 X3 X4 X5 k f7 f8).1) (ix2 (row 0 r) l)
      = mNew (Kt (arg4.view.read (Elt Ideal) X4) (tk k)) (qh (arg3.view.read (Elt Ideal) X3) 0) (fun r => μ (row 0 r)) r := by
  have hr := r.isLt
  unfold tripL_k0_t1 trip_k0_t1
  dsimp only
  refine (View.read_writes_cons_rows_of_not_mem arg7.view f7 (o := 3072) (W := 1024) _ _ _ _ rfl rfl (by show 1024 * 0 + r.val < _ ∨ _ ≤ 1024 * 0 + r.val; omega)).trans ?_
  refine (View.read_writes_cons_rows_of_not_mem arg7.view f7 (o := 2048) (W := 1024) _ _ _ _ rfl rfl (by show 1024 * 0 + r.val < _ ∨ _ ≤ 1024 * 0 + r.val; omega)).trans ?_
  refine (View.read_writes_cons_rows_of_not_mem arg7.view f7 (o := 1024) (W := 1024) _ _ _ _ rfl rfl (by show 1024 * 0 + r.val < _ ∨ _ ≤ 1024 * 0 + r.val; omega)).trans ?_
  refine (View.read_writes_cons_rows_of_mem arg7.view f7 (o := 0) _ _ _ (ix2 (row 0 r) l) (ix2 r l) rfl rfl rfl).trans ?_
  refine Eq.trans (show _ = k0_pay5 (F := Ideal) (ldK arg4 X4 k)
      (arg3.view.readAt (Elt Ideal) (Rect.unit (s := S1024x512) ![0, 0] ![1024, 128] inb_S1024x512_S1024x128_0_0).toLoadRect X3)
      (arg7.view.readAt (Elt Ideal) (Rect.unit (s := S4096x128) ![0, 0] ![1024, 128] inb_S4096x128_S1024x128_0_0).toLoadRect f7) (ix2 r l) from (congrFun (pay7_eq _ _ _) (ix2 r l))) ?_
  rw [pay5_eq _ _ _ (fun r => μ (row 0 r)) (ldM_at arg7 f7 μ hM 0 0 rfl _), ldK_eq, ldQ_eq arg3 X3 0 0 rfl]
  rfl

/-- The maxima of head 1 after a trip. -/
theorem tripM1 (μ : Fin 4096 → EReal) (hM : ∀ p l, arg7.view.read (Elt Ideal) f7 (ix2 p l) = μ p) (r : Fin 1024) (l : Fin 128) :
    arg7.view.read (Elt Ideal) (arg7.view.writes (Elt Ideal) f7 (tripL_k0_t1 (F := Ideal) 𝒱 c bd i arg3 harg3 arg4 harg4 arg5 harg5 arg6 harg6 arg7 harg7 arg8 harg8 X3 X4 X5 k f7 f8).1) (ix2 (row 1 r) l)
      = mNew (Kt (arg4.view.read (Elt Ideal) X4) (tk k)) (qh (arg3.view.read (Elt Ideal) X3) 1) (fun r => μ (row 1 r)) r := by
  have hr := r.isLt
  unfold tripL_k0_t1 trip_k0_t1
  dsimp only
  refine (View.read_writes_cons_rows_of_not_mem arg7.view f7 (o := 3072) (W := 1024) _ _ _ _ rfl rfl (by show 1024 * 1 + r.val < _ ∨ _ ≤ 1024 * 1 + r.val; omega)).trans ?_
  refine (View.read_writes_cons_rows_of_not_mem arg7.view f7 (o := 2048) (W := 1024) _ _ _ _ rfl rfl (by show 1024 * 1 + r.val < _ ∨ _ ≤ 1024 * 1 + r.val; omega)).trans ?_
  refine (View.read_writes_cons_rows_of_mem arg7.view f7 (o := 1024) _ _ _ (ix2 (row 1 r) l) (ix2 r l) rfl rfl rfl).trans ?_
  refine Eq.trans (show _ = k0_pay5 (F := Ideal) (ldK arg4 X4 k)
      (arg3.view.readAt (Elt Ideal) (Rect.unit (s := S1024x512) ![0, 128] ![1024, 128] inb_S1024x512_S1024x128_0_128).toLoadRect X3)
      (arg7.view.readAt (Elt Ideal) (Rect.unit (s := S4096x128) ![1024, 0] ![1024, 128] inb_S4096x128_S1024x128_1024_0).toLoadRect f7) (ix2 r l) from (congrFun (pay7_eq _ _ _) (ix2 r l))) ?_
  rw [pay5_eq _ _ _ (fun r => μ (row 1 r)) (ldM_at arg7 f7 μ hM 1 1024 rfl _), ldK_eq, ldQ_eq arg3 X3 1 128 rfl]
  rfl

/-- The maxima of head 2 after a trip. -/
theorem tripM2 (μ : Fin 4096 → EReal) (hM : ∀ p l, arg7.view.read (Elt Ideal) f7 (ix2 p l) = μ p) (r : Fin 1024) (l : Fin 128) :
    arg7.view.read (Elt Ideal) (arg7.view.writes (Elt Ideal) f7 (tripL_k0_t1 (F := Ideal) 𝒱 c bd i arg3 harg3 arg4 harg4 arg5 harg5 arg6 harg6 arg7 harg7 arg8 harg8 X3 X4 X5 k f7 f8).1) (ix2 (row 2 r) l)
      = mNew (Kt (arg4.view.read (Elt Ideal) X4) (tk k)) (qh (arg3.view.read (Elt Ideal) X3) 2) (fun r => μ (row 2 r)) r := by
  have hr := r.isLt
  unfold tripL_k0_t1 trip_k0_t1
  dsimp only
  refine (View.read_writes_cons_rows_of_not_mem arg7.view f7 (o := 3072) (W := 1024) _ _ _ _ rfl rfl (by show 1024 * 2 + r.val < _ ∨ _ ≤ 1024 * 2 + r.val; omega)).trans ?_
  refine (View.read_writes_cons_rows_of_mem arg7.view f7 (o := 2048) _ _ _ (ix2 (row 2 r) l) (ix2 r l) rfl rfl rfl).trans ?_
  refine Eq.trans (show _ = k0_pay5 (F := Ideal) (ldK arg4 X4 k)
      (arg3.view.readAt (Elt Ideal) (Rect.unit (s := S1024x512) ![0, 256] ![1024, 128] inb_S1024x512_S1024x128_0_256).toLoadRect X3)
      (arg7.view.readAt (Elt Ideal) (Rect.unit (s := S4096x128) ![2048, 0] ![1024, 128] inb_S4096x128_S1024x128_2048_0).toLoadRect f7) (ix2 r l) from (congrFun (pay7_eq _ _ _) (ix2 r l))) ?_
  rw [pay5_eq _ _ _ (fun r => μ (row 2 r)) (ldM_at arg7 f7 μ hM 2 2048 rfl _), ldK_eq, ldQ_eq arg3 X3 2 256 rfl]
  rfl

/-- The maxima of head 3 after a trip. -/
theorem tripM3 (μ : Fin 4096 → EReal) (hM : ∀ p l, arg7.view.read (Elt Ideal) f7 (ix2 p l) = μ p) (r : Fin 1024) (l : Fin 128) :
    arg7.view.read (Elt Ideal) (arg7.view.writes (Elt Ideal) f7 (tripL_k0_t1 (F := Ideal) 𝒱 c bd i arg3 harg3 arg4 harg4 arg5 harg5 arg6 harg6 arg7 harg7 arg8 harg8 X3 X4 X5 k f7 f8).1) (ix2 (row 3 r) l)
      = mNew (Kt (arg4.view.read (Elt Ideal) X4) (tk k)) (qh (arg3.view.read (Elt Ideal) X3) 3) (fun r => μ (row 3 r)) r := by
  have hr := r.isLt
  unfold tripL_k0_t1 trip_k0_t1
  dsimp only
  refine (View.read_writes_cons_rows_of_mem arg7.view f7 (o := 3072) _ _ _ (ix2 (row 3 r) l) (ix2 r l) rfl rfl rfl).trans ?_
  refine Eq.trans (show _ = k0_pay5 (F := Ideal) (ldK arg4 X4 k)
      (arg3.view.readAt (Elt Ideal) (Rect.unit (s := S1024x512) ![0, 384] ![1024, 128] inb_S1024x512_S1024x128_0_384).toLoadRect X3)
      (arg7.view.readAt (Elt Ideal) (Rect.unit (s := S4096x128) ![3072, 0] ![1024, 128] inb_S4096x128_S1024x128_3072_0).toLoadRect f7) (ix2 r l) from (congrFun (pay7_eq _ _ _) (ix2 r l))) ?_
  rw [pay5_eq _ _ _ (fun r => μ (row 3 r)) (ldM_at arg7 f7 μ hM 3 3072 rfl _), ldK_eq, ldQ_eq arg3 X3 3 384 rfl]
  rfl

end Trip

end Cert.KernelIdeal.Value

end
-- ==== Proof.Sweep.lean ====
/- THE SWEEP OVER THE KEYS AND WHAT THE BODY WRITES. After `k` trips the buffers hold, row by row, the maximum of the scores of the first `k`
   tiles of keys and the sums weighted against it; after all eight the quotient of the two halves of a row's sums is the row's attention. -/
module

public import proofs.«01_k».proof.Proof.Gen.KernelIdeal.Value
public import proofs.«01_k».proof.Proof.Trip

@[expose] public section

set_option maxRecDepth 16384
set_option backward.proofsInPublic true

noncomputable section

namespace Cert.KernelIdeal.Value

open Cert.KernelIdeal Cert.KernelIdeal.Gen
open Idealize.ShloMosaic Idealize.ShloMosaic.TcCoe Idealize.SL.Sem

/-- Every row of the buffers belongs to a head. -/
theorem row_cases (p : Fin 4096) : ∃ (h : Fin 4) (r : Fin 1024), p = row h r := by
  have hp := p.isLt
  exact ⟨⟨p.val / 1024, by omega⟩, ⟨p.val % 1024, by omega⟩, Fin.ext (by show p.val = 1024 * (p.val / 1024) + p.val % 1024; omega)⟩

/-- The score of row `r` of head `h` with key `j`. -/
def full (x3 : Vec Ideal S1024x512 .bf16) (x4 : Vec Ideal S4096x128 .bf16) (h : Fin 4) (r : Fin 1024) (j : Fin 4096) : EReal :=
  ∑ d : Fin 128, x3 (ix2 r (⟨128 * h.val + d.val, by have := h.isLt; have := d.isLt; omega⟩ : Fin 512)) * x4 (ix2 j d)

theorem key_ok (k : Fin 8) : 512 * (k.val + 1) ≤ 4096 := by have := k.isLt; omega

section Sweep

variable (x3 : Vec Ideal S1024x512 .bf16) (x4 : Vec Ideal S4096x128 .bf16) (x5 : Vec Ideal S4096x256 .bf16)
  (s : Fin 4096 → Fin 4096 → ℝ) (hs : ∀ h r j, full x3 x4 h r j = ((s (row h r) j : ℝ) : EReal))

include hs

theorem score_tile (k : Fin 8) (h : Fin 4) (r : Fin 1024) (x : Fin 512) :
    score (Kt x4 k) (qh x3 h) r x = ((s (row h r) (Softmax.key 512 k.val (key_ok k) x) : ℝ) : EReal) :=
  hs h r (Softmax.key 512 k.val (key_ok k) x)

theorem mNew_tile (k : Fin 8) (h : Fin 4) (r : Fin 1024) :
    mNew (Kt x4 k) (qh x3 h) (fun r => Softmax.mx 512 (s (row h r)) k.val) r = Softmax.mx 512 (s (row h r)) (k.val + 1) := by
  unfold mNew
  rw [← Softmax.mx_succ 512 (s (row h r)) k.val (key_ok k)]
  simp only [score_tile x3 x4 s hs]

theorem aNew_tile (k : Fin 8) (h : Fin 4) (r : Fin 1024) (l : Fin 256) (a : Vec Ideal S1024x256 .f32)
    (ha : a (ix2 r l) = Softmax.ac 512 (s (row h r)) (fun j => x5 (ix2 j l)) k.val) :
    aNew (Kt x4 k) (Vt x5 k) (qh x3 h) (fun r => Softmax.mx 512 (s (row h r)) k.val) a r l
      = Softmax.ac 512 (s (row h r)) (fun j => x5 (ix2 j l)) (k.val + 1) := by
  unfold aNew
  rw [mNew_tile x3 x4 s hs, ha, ← Softmax.ac_succ 512 (s (row h r)) (fun j => x5 (ix2 j l)) k.val (key_ok k)]
  simp only [score_tile x3 x4 s hs]
  rfl

end Sweep

section Loop

variable (𝒱 : Variants) (c : Dev nD) (bd : Option 𝒱.V) (i : grid0.Coords) (arg3 : Memref sig .tc .vmem S1024x512 .bf16) (harg3 : arg3.IsWhole)
  (arg4 : Memref sig .tc .vmem S4096x128 .bf16) (harg4 : arg4.IsWhole) (arg5 : Memref sig .tc .vmem S4096x256 .bf16) (harg5 : arg5.IsWhole)
  (arg6 : Memref sig .tc .vmem S1024x512 .bf16) (harg6 : arg6.IsWhole) (arg7 : Memref sig .tc .vmem S4096x128 .f32) (harg7 : arg7.IsWhole)
  (arg8 : Memref sig .tc .vmem S4096x256 .f32) (harg8 : arg8.IsWhole)
  (x3 : Vec Ideal S1024x512 .bf16) (x4 : Vec Ideal S4096x128 .bf16) (x5 : Vec Ideal S4096x256 .bf16)
  (G7 : BufTy.Contents (Elt Ideal) arg7.view.ty) (G8 : BufTy.Contents (Elt Ideal) arg8.view.ty)
  (s : Fin 4096 → Fin 4096 → ℝ) (hs : ∀ h r j, full x3 x4 h r j = ((s (row h r) j : ℝ) : EReal))
  (h7 : ∀ p l, arg7.view.read (Elt Ideal) G7 (ix2 p l) = (⊥ : EReal)) (h8 : ∀ p l, arg8.view.read (Elt Ideal) G8 (ix2 p l) = (0 : EReal))

/-- The pieces written by the first `k` trips. -/
abbrev pcs (k : ℕ) := pb_k0_t1 (F := Ideal) 𝒱 c bd i arg3 harg3 arg4 harg4 arg5 harg5 arg6 harg6 arg7 harg7 arg8 harg8
  (harg3.unread x3) (harg4.unread x4) (harg5.unread x5) G7 G8 k

include hs h7 h8 in
/-- After `k` trips: the maxima and the weighted sums of the first `k` tiles. -/
theorem sweep (k : ℕ) (hk : k ≤ k0_t1_loop.trips) :
    (∀ p l, arg7.view.read (Elt Ideal) (arg7.view.writes (Elt Ideal) G7
        (pcs 𝒱 c bd i arg3 harg3 arg4 harg4 arg5 harg5 arg6 harg6 arg7 harg7 arg8 harg8 x3 x4 x5 G7 G8 k).1) (ix2 p l) = Softmax.mx 512 (s p) k)
    ∧ (∀ p l, arg8.view.read (Elt Ideal) (arg8.view.writes (Elt Ideal) G8
        (pcs 𝒱 c bd i arg3 harg3 arg4 harg4 arg5 harg5 arg6 harg6 arg7 harg7 arg8 harg8 x3 x4 x5 G7 G8 k).2) (ix2 p l)
          = Softmax.ac 512 (s p) (fun j => x5 (ix2 j l)) k) := by
  induction k with
  | zero =>
    refine ⟨fun p l => (h7 p l).trans (Softmax.mx_zero 512 (s p)).symm, fun p l => (h8 p l).trans (Softmax.ac_zero 512 (s p) _).symm⟩
  | succ k ih =>
    obtain ⟨ihM, ihA⟩ := ih (by omega)
    have e := pb_k0_t1_succ (F := Ideal) 𝒱 c bd i arg3 harg3 arg4 harg4 arg5 harg5 arg6 harg6 arg7 harg7 arg8 harg8
      (harg3.unread x3) (harg4.unread x4) (harg5.unread x5) G7 G8 ⟨k, hk⟩
    dsimp only at e
    unfold pcs
    rw [e]
    dsimp only
    rw [View.writes_append, View.writes_append]
    have r3 : arg3.view.read (Elt Ideal) (harg3.unread x3) = x3 := harg3.read_unread x3
    have r4 : arg4.view.read (Elt Ideal) (harg4.unread x4) = x4 := harg4.read_unread x4
    have r5 : arg5.view.read (Elt Ideal) (harg5.unread x5) = x5 := harg5.read_unread x5
    constructor
    · intro p l
      obtain ⟨h, r, rfl⟩ := row_cases p
      refine Eq.trans ?_ (mNew_tile x3 x4 s hs (tk ⟨k, hk⟩) h r)
      match h with
      | ⟨0, _⟩ => exact (tripM0 𝒱 c bd i arg3 harg3 arg4 harg4 arg5 harg5 arg6 harg6 arg7 harg7 arg8 harg8 _ _ _ ⟨k, hk⟩ _ _ _ ihM r l).trans (by rw [r3, r4]; rfl)
      | ⟨1, _⟩ => exact (tripM1 𝒱 c bd i arg3 harg3 arg4 harg4 arg5 harg5 arg6 harg6 arg7 harg7 arg8 harg8 _ _ _ ⟨k, hk⟩ _ _ _ ihM r l).trans (by rw [r3, r4]; rfl)
      | ⟨2, _⟩ => exact (tripM2 𝒱 c bd i arg3 harg3 arg4 harg4 arg5 harg5 arg6 harg6 arg7 harg7 arg8 harg8 _ _ _ ⟨k, hk⟩ _ _ _ ihM r l).trans (by rw [r3, r4]; rfl)
      | ⟨3, _⟩ => exact (tripM3 𝒱 c bd i arg3 harg3 arg4 harg4 arg5 harg5 arg6 harg6 arg7 harg7 arg8 harg8 _ _ _ ⟨k, hk⟩ _ _ _ ihM r l).trans (by rw [r3, r4]; rfl)
    · intro p l
      obtain ⟨h, r, rfl⟩ := row_cases p
      have main := aNew_tile x3 x4 x5 s hs (tk ⟨k, hk⟩) h r l (ah (arg8.view.read (Elt Ideal) (arg8.view.writes (Elt Ideal) G8
        (pcs 𝒱 c bd i arg3 harg3 arg4 harg4 arg5 harg5 arg6 harg6 arg7 harg7 arg8 harg8 x3 x4 x5 G7 G8 k).2)) h) (ihA (row h r) l)
      refine Eq.trans ?_ main
      clear main
      match h with
      | ⟨0, _⟩ => exact (tripA0 𝒱 c bd i arg3 harg3 arg4 harg4 arg5 harg5 arg6 harg6 arg7 harg7 arg8 harg8 _ _ _ ⟨k, hk⟩ _ _ _ ihM r l).trans (by rw [r3, r4, r5]; rfl)
      | ⟨1, _⟩ => exact (tripA1 𝒱 c bd i arg3 harg3 arg4 harg4 arg5 harg5 arg6 harg6 arg7 harg7 arg8 harg8 _ _ _ ⟨k, hk⟩ _ _ _ ihM r l).trans (by rw [r3, r4, r5]; rfl)
      | ⟨2, _⟩ => exact (tripA2 𝒱 c bd i arg3 harg3 arg4 harg4 arg5 harg5 arg6 harg6 arg7 harg7 arg8 harg8 _ _ _ ⟨k, hk⟩ _ _ _ ihM r l).trans (by rw [r3, r4, r5]; rfl)
      | ⟨3, _⟩ => exact (tripA3 𝒱 c bd i arg3 harg3 arg4 harg4 arg5 harg5 arg6 harg6 arg7 harg7 arg8 harg8 _ _ _ ⟨k, hk⟩ _ _ _ ihM r l).trans (by rw [r3, r4, r5]; rfl)

end Loop

section Block

variable (c : Dev nD) (i : grid0.Coords) (arg3 : Memref sig .tc .vmem S1024x512 .bf16) (harg3 : arg3.IsWhole)
  (arg4 : Memref sig .tc .vmem S4096x128 .bf16) (harg4 : arg4.IsWhole) (arg5 : Memref sig .tc .vmem S4096x256 .bf16) (harg5 : arg5.IsWhole)
  (arg6 : Memref sig .tc .vmem S1024x512 .bf16) (harg6 : arg6.IsWhole) (arg7 : Memref sig .tc .vmem S4096x128 .f32) (harg7 : arg7.IsWhole)
  (arg8 : Memref sig .tc .vmem S4096x256 .f32) (harg8 : arg8.IsWhole)
  (x3 : Vec Ideal S1024x512 .bf16) (x4 : Vec Ideal S4096x128 .bf16) (x5 : Vec Ideal S4096x256 .bf16)
  (s : Fin 4096 → Fin 4096 → ℝ) (hs : ∀ h r j, full x3 x4 h r j = ((s (row h r) j : ℝ) : EReal))

/-- The contents of the buffer of sums before the sweep. -/
abbrev init8 : BufTy.Contents (Elt Ideal) arg8.view.ty := arg8.view.writes (Elt Ideal) arg8.view.junk (kernelRun0_A.sl.HS1_1 (F := Ideal))

/-- The contents of the buffer of maxima before the sweep. -/
abbrev init7 : BufTy.Contents (Elt Ideal) arg7.view.ty := arg7.view.writes (Elt Ideal) arg7.view.junk (kernelRun0_A.sl.HS0_1 (F := Ideal))

theorem init7_at (p : Fin 4096) (l : Fin 128) : arg7.view.read (Elt Ideal) (init7 arg7) (ix2 p l) = (⊥ : EReal) := by
  unfold init7 kernelRun0_A.sl.HS0_1
  refine (View.read_writes_cons_rows_of_mem arg7.view _ (o := 0) _ _ _ (ix2 p l) (ix2 p l) rfl (Nat.zero_add _).symm rfl).trans ?_
  unfold k0_pay21
  rw [shapeCast_self]
  exact ofBits_neg_inf

theorem init8_at (p : Fin 4096) (l : Fin 256) : arg8.view.read (Elt Ideal) (init8 arg8) (ix2 p l) = (0 : EReal) := by
  unfold init8 kernelRun0_A.sl.HS1_1
  refine (View.read_writes_cons_rows_of_mem arg8.view _ (o := 0) _ _ _ (ix2 p l) (ix2 p l) rfl (Nat.zero_add _).symm rfl).trans ?_
  unfold k0_pay22
  rw [shapeCast_self]
  exact Ideal.ofBits_zero .f32

include hs in
/-- A load from the sums after the sweep. -/
theorem sums_at (h : Fin 4) (o o1 : ℕ) (ho : o = 1024 * h.val) (inb) (r : Fin 1024) (l : Fin 128) (h1 : o1 + l.val < 256) :
    (arg8.view.readCov (Val := Elt Ideal)
        ((pcs Variants.none c none i arg3 harg3 arg4 harg4 arg5 harg5 arg6 harg6 arg7 harg7 arg8 harg8 x3 x4 x5 (init7 arg7) (init8 arg8)
          (Scf.trips k0_t1_loop.lb k0_t1_loop.ub k0_t1_loop.st)).2 ++ kernelRun0_A.sl.HS1_1)
        (Rect.unit (s := S4096x256) ![o, o1] S1024x128.size inb).toLoadRect : Vec Ideal S1024x128 .f32) (ix2 r l)
      = Softmax.ac 512 (s (row h r)) (fun j => x5 (ix2 j (⟨o1 + l.val, h1⟩ : Fin 256))) 8 := by
  subst ho
  have h0 := r.isLt
  have hh := h.isLt
  unfold View.readCov
  refine (readAt_ix2 arg8.view _ _ inb (1024 * h.val) o1 rfl r l (by omega) (by omega)).trans ?_
  rw [View.writes_append]
  exact ((sweep Variants.none c none i arg3 harg3 arg4 harg4 arg5 harg5 arg6 harg6 arg7 harg7 arg8 harg8 x3 x4 x5 (init7 arg7) (init8 arg8) s hs
    (init7_at arg7) (init8_at arg8) k0_t1_loop.trips le_rfl).2 (row h r) ⟨o1 + l.val, h1⟩)

variable (h1 : ∀ j (l : Fin 128), x5 (ix2 j (⟨128 + l.val, by have := l.isLt; omega⟩ : Fin 256)) = (1 : EReal))

include hs h1 in
/-- The block the body writes, in the columns of head 0. -/
theorem out_head0 (r : Fin 1024) (l : Fin 128) :
    out0_A_3 (F := Ideal) c i arg3 harg3 arg4 harg4 arg5 harg5 arg6 harg6 arg7 harg7 arg8 harg8 x3 x4 x5
        (ix2 r (⟨128 * 0 + l.val, by have := l.isLt; omega⟩ : Fin 512))
      = Ideal.div (Softmax.ac 512 (s (row 0 r)) (fun j => x5 (ix2 j (⟨l.val, by have := l.isLt; omega⟩ : Fin 256))) 8)
          (Softmax.ac 512 (s (row 0 r)) (fun _ => 1) 8) := by
  have hl := l.isLt
  unfold out0_A_3 kernelRun0_A
  dsimp only
  refine (View.read_writes_cons_unit_of_not_mem VO0_3 _ (off' := ![0, 384]) _ _ _ _ rfl (1 : Fin 2) (by show 128 * 0 + l.val < 384 ∨ 384 + 128 ≤ 128 * 0 + l.val; omega)).trans ?_
  refine (View.read_writes_cons_unit_of_not_mem VO0_3 _ (off' := ![0, 256]) _ _ _ _ rfl (1 : Fin 2) (by show 128 * 0 + l.val < 256 ∨ 256 + 128 ≤ 128 * 0 + l.val; omega)).trans ?_
  refine (View.read_writes_cons_unit_of_not_mem VO0_3 _ (off' := ![0, 128]) _ _ _ _ rfl (1 : Fin 2) (by show 128 * 0 + l.val < 128 ∨ 128 + 128 ≤ 128 * 0 + l.val; omega)).trans ?_
  refine (View.read_writes_cons_unit_of_mem VO0_3 _ (off' := ![0, 0]) _ _ _ _ (ix2 r l) rfl (fun a => match a with
    | ⟨0, _⟩ => (Nat.zero_add _).symm
    | ⟨1, _⟩ => rfl)).trans ?_
  refine Eq.trans (show _ = Ideal.div (kernelRun0_A.sl.v9 (F := Ideal) c i arg3 harg3 arg4 harg4 arg5 harg5 arg6 harg6 arg7 harg7 arg8 harg8 x3 x4 x5 (ix2 r l))
    (kernelRun0_A.sl.v10 (F := Ideal) c i arg3 harg3 arg4 harg4 arg5 harg5 arg6 harg6 arg7 harg7 arg8 harg8 x3 x4 x5 (ix2 r l)) from rfl) ?_
  unfold kernelRun0_A.sl.v9 kernelRun0_A.sl.v10
  refine congrArg₂ Ideal.div ?_ ?_
  · refine (sums_at c i arg3 harg3 arg4 harg4 arg5 harg5 arg6 harg6 arg7 harg7 arg8 harg8 x3 x4 x5 s hs 0 0 0 rfl _ r l (by omega)).trans ?_
    simp only [Nat.zero_add]
  · refine (sums_at c i arg3 harg3 arg4 harg4 arg5 harg5 arg6 harg6 arg7 harg7 arg8 harg8 x3 x4 x5 s hs 0 0 128 rfl _ r l (by omega)).trans ?_
    simp only [h1]

include hs h1 in
/-- The block the body writes, in the columns of head 1. -/
theorem out_head1 (r : Fin 1024) (l : Fin 128) :
    out0_A_3 (F := Ideal) c i arg3 harg3 arg4 harg4 arg5 harg5 arg6 harg6 arg7 harg7 arg8 harg8 x3 x4 x5
        (ix2 r (⟨128 * 1 + l.val, by have := l.isLt; omega⟩ : Fin 512))
      = Ideal.div (Softmax.ac 512 (s (row 1 r)) (fun j => x5 (ix2 j (⟨l.val, by have := l.isLt; omega⟩ : Fin 256))) 8)
          (Softmax.ac 512 (s (row 1 r)) (fun _ => 1) 8) := by
  have hl := l.isLt
  unfold out0_A_3 kernelRun0_A
  dsimp only
  refine (View.read_writes_cons_unit_of_not_mem VO0_3 _ (off' := ![0, 384]) _ _ _ _ rfl (1 : Fin 2) (by show 128 * 1 + l.val < 384 ∨ 384 + 128 ≤ 128 * 1 + l.val; omega)).trans ?_
  refine (View.read_writes_cons_unit_of_not_mem VO0_3 _ (off' := ![0, 256]) _ _ _ _ rfl (1 : Fin 2) (by show 128 * 1 + l.val < 256 ∨ 256 + 128 ≤ 128 * 1 + l.val; omega)).trans ?_
  refine (View.read_writes_cons_unit_of_mem VO0_3 _ (off' := ![0, 128]) _ _ _ _ (ix2 r l) rfl (fun a => match a with
    | ⟨0, _⟩ => (Nat.zero_add _).symm
    | ⟨1, _⟩ => rfl)).trans ?_
  refine Eq.trans (show _ = Ideal.div (kernelRun0_A.sl.v14 (F := Ideal) c i arg3 harg3 arg4 harg4 arg5 harg5 arg6 harg6 arg7 harg7 arg8 harg8 x3 x4 x5 (ix2 r l))
    (kernelRun0_A.sl.v15 (F := Ideal) c i arg3 harg3 arg4 harg4 arg5 harg5 arg6 harg6 arg7 harg7 arg8 harg8 x3 x4 x5 (ix2 r l)) from rfl) ?_
  unfold kernelRun0_A.sl.v14 kernelRun0_A.sl.v15
  refine congrArg₂ Ideal.div ?_ ?_
  · refine (sums_at c i arg3 harg3 arg4 harg4 arg5 harg5 arg6 harg6 arg7 harg7 arg8 harg8 x3 x4 x5 s hs 1 1024 0 rfl _ r l (by omega)).trans ?_
    simp only [Nat.zero_add]
  · refine (sums_at c i arg3 harg3 arg4 harg4 arg5 harg5 arg6 harg6 arg7 harg7 arg8 harg8 x3 x4 x5 s hs 1 1024 128 rfl _ r l (by omega)).trans ?_
    simp only [h1]

include hs h1 in
/-- The block the body writes, in the columns of head 2. -/
theorem out_head2 (r : Fin 1024) (l : Fin 128) :
    out0_A_3 (F := Ideal) c i arg3 harg3 arg4 harg4 arg5 harg5 arg6 harg6 arg7 harg7 arg8 harg8 x3 x4 x5
        (ix2 r (⟨128 * 2 + l.val, by have := l.isLt; omega⟩ : Fin 512))
      = Ideal.div (Softmax.ac 512 (s (row 2 r)) (fun j => x5 (ix2 j (⟨l.val, by have := l.isLt; omega⟩ : Fin 256))) 8)
          (Softmax.ac 512 (s (row 2 r)) (fun _ => 1) 8) := by
  have hl := l.isLt
  unfold out0_A_3 kernelRun0_A
  dsimp only
  refine (View.read_writes_cons_unit_of_not_mem VO0_3 _ (off' := ![0, 384]) _ _ _ _ rfl (1 : Fin 2) (by show 128 * 2 + l.val < 384 ∨ 384 + 128 ≤ 128 * 2 + l.val; omega)).trans ?_
  refine (View.read_writes_cons_unit_of_mem VO0_3 _ (off' := ![0, 256]) _ _ _ _ (ix2 r l) rfl (fun a => match a with
    | ⟨0, _⟩ => (Nat.zero_add _).symm
    | ⟨1, _⟩ => rfl)).trans ?_
  refine Eq.trans (show _ = Ideal.div (kernelRun0_A.sl.v19 (F := Ideal) c i arg3 harg3 arg4 harg4 arg5 harg5 arg6 harg6 arg7 harg7 arg8 harg8 x3 x4 x5 (ix2 r l))
    (kernelRun0_A.sl.v20 (F := Ideal) c i arg3 harg3 arg4 harg4 arg5 harg5 arg6 harg6 arg7 harg7 arg8 harg8 x3 x4 x5 (ix2 r l)) from rfl) ?_
  unfold kernelRun0_A.sl.v19 kernelRun0_A.sl.v20
  refine congrArg₂ Ideal.div ?_ ?_
  · refine (sums_at c i arg3 harg3 arg4 harg4 arg5 harg5 arg6 harg6 arg7 harg7 arg8 harg8 x3 x4 x5 s hs 2 2048 0 rfl _ r l (by omega)).trans ?_
    simp only [Nat.zero_add]
  · refine (sums_at c i arg3 harg3 arg4 harg4 arg5 harg5 arg6 harg6 arg7 harg7 arg8 harg8 x3 x4 x5 s hs 2 2048 128 rfl _ r l (by omega)).trans ?_
    simp only [h1]

include hs h1 in
/-- The block the body writes, in the columns of head 3. -/
theorem out_head3 (r : Fin 1024) (l : Fin 128) :
    out0_A_3 (F := Ideal) c i arg3 harg3 arg4 harg4 arg5 harg5 arg6 harg6 arg7 harg7 arg8 harg8 x3 x4 x5
        (ix2 r (⟨128 * 3 + l.val, by have := l.isLt; omega⟩ : Fin 512))
      = Ideal.div (Softmax.ac 512 (s (row 3 r)) (fun j => x5 (ix2 j (⟨l.val, by have := l.isLt; omega⟩ : Fin 256))) 8)
          (Softmax.ac 512 (s (row 3 r)) (fun _ => 1) 8) := by
  have hl := l.isLt
  unfold out0_A_3 kernelRun0_A
  dsimp only
  refine (View.read_writes_cons_unit_of_mem VO0_3 _ (off' := ![0, 384]) _ _ _ _ (ix2 r l) rfl (fun a => match a with
    | ⟨0, _⟩ => (Nat.zero_add _).symm
    | ⟨1, _⟩ => rfl)).trans ?_
  refine Eq.trans (show _ = Ideal.div (kernelRun0_A.sl.v24 (F := Ideal) c i arg3 harg3 arg4 harg4 arg5 harg5 arg6 harg6 arg7 harg7 arg8 harg8 x3 x4 x5 (ix2 r l))
    (kernelRun0_A.sl.v25 (F := Ideal) c i arg3 harg3 arg4 harg4 arg5 harg5 arg6 harg6 arg7 harg7 arg8 harg8 x3 x4 x5 (ix2 r l)) from rfl) ?_
  unfold kernelRun0_A.sl.v24 kernelRun0_A.sl.v25
  refine congrArg₂ Ideal.div ?_ ?_
  · refine (sums_at c i arg3 harg3 arg4 harg4 arg5 harg5 arg6 harg6 arg7 harg7 arg8 harg8 x3 x4 x5 s hs 3 3072 0 rfl _ r l (by omega)).trans ?_
    simp only [Nat.zero_add]
  · refine (sums_at c i arg3 harg3 arg4 harg4 arg5 harg5 arg6 harg6 arg7 harg7 arg8 harg8 x3 x4 x5 s hs 3 3072 128 rfl _ r l (by omega)).trans ?_
    simp only [h1]

end Block

end Cert.KernelIdeal.Value

end
-- ==== Proof.Host.lean ====
/- WHAT THE HOST HANDS THE KERNEL: the queries, keys and values of the prompt batch and two runs of ones, packed side by side,
   read at the entries the kernel's windows visit. -/
module

public import proofs.«01_k».proof.Proof.Gen.KernelIdeal.Value
public import proofs.«01_k».proof.Proof.Pays

@[expose] public section

set_option maxRecDepth 16384

noncomputable section

namespace Cert.KernelIdeal.Value

open Cert.KernelIdeal Cert.KernelIdeal.Gen
open Idealize.ShloMosaic Idealize.ShloMosaic.TcCoe Idealize.SL.Sem

/-- The queries of both batches, one row per token. -/
def rowsQ (a : FVec Ideal S4x4096x8x128 .f32) (b : FVec Ideal S1x8192x8x128 .f32) : FVec Ideal S24576x1024 .f32 :=
  concatenate S24576x1024 0 [⟨S16384x1024, shapeCast S16384x1024 a shapeCasts_S4x4096x8x128_S16384x1024⟩,
    ⟨S8192x1024, shapeCast S8192x1024 b shapeCasts_S1x8192x8x128_S8192x1024⟩] concatenates_S16384x1024_S8192x1024_S24576x1024_d0

/-- The keys, or the values, of both batches, one row per token. -/
def rowsK (a : FVec Ideal S4x4096x2x128 .f32) (b : FVec Ideal S1x8192x2x128 .f32) : FVec Ideal S24576x256 .f32 :=
  concatenate S24576x256 0 [⟨S16384x256, shapeCast S16384x256 a shapeCasts_S4x4096x2x128_S16384x256⟩,
    ⟨S8192x256, shapeCast S8192x256 b shapeCasts_S1x8192x2x128_S8192x256⟩] concatenates_S16384x256_S8192x256_S24576x256_d0

/-- The six column blocks side by side. -/
def packed (q : FVec Ideal S24576x1024 .f32) (k : FVec Ideal S24576x256 .f32) (v0 o v1 : FVec Ideal S24576x128 .f32) : FVec Ideal S24576x1792 .f32 :=
  concatenate S24576x1792 1 [⟨S24576x1024, q⟩, ⟨S24576x256, k⟩, ⟨S24576x128, v0⟩, ⟨S24576x128, o⟩, ⟨S24576x128, v1⟩, ⟨S24576x128, o⟩]
    concatenates_S24576x1024_S24576x256_S24576x128_S24576x128_S24576x128_S24576x128_S24576x1792_d1

/-- A row of the prompt batch in the packed rows. -/
def tok (b : Fin 4) (t : Fin 4096) : Fin 24576 := ⟨4096 * b.val + t.val, by have := b.isLt; have := t.isLt; omega⟩

theorem rowsQ_at (x : FVec Ideal S4x4096x8x128 .f32) (y : FVec Ideal S1x8192x8x128 .f32) (b : Fin 4) (t : Fin 4096) (h : Fin 8) (d : Fin 128) :
    rowsQ x y (ix2 (tok b t) (⟨128 * h.val + d.val, by have := h.isLt; have := d.isLt; omega⟩ : Fin 1024)) = x (ix4 b t h d) := by
  have hb := b.isLt
  have ht := t.isLt
  have hh := h.isLt
  have hd := d.isLt
  unfold rowsQ tok
  pointwise
  rw [dif_pos (by omega)]

theorem rowsK_at (x : FVec Ideal S4x4096x2x128 .f32) (y : FVec Ideal S1x8192x2x128 .f32) (b : Fin 4) (t : Fin 4096) (g : Fin 2) (d : Fin 128) :
    rowsK x y (ix2 (tok b t) (⟨128 * g.val + d.val, by have := g.isLt; have := d.isLt; omega⟩ : Fin 256)) = x (ix4 b t g d) := by
  have hb := b.isLt
  have ht := t.isLt
  have hh := g.isLt
  have hd := d.isLt
  unfold rowsK tok
  pointwise
  rw [dif_pos (by omega)]

section
variable (q : FVec Ideal S24576x1024 .f32) (k : FVec Ideal S24576x256 .f32) (v0 o v1 : FVec Ideal S24576x128 .f32) (p : Fin 24576)

theorem packed_q (x : Fin 1024) : packed q k v0 o v1 (ix2 p (⟨x.val, by have := x.isLt; omega⟩ : Fin 1792)) = q (ix2 p x) := by
  have hx := x.isLt
  unfold packed
  pointwise

theorem packed_k (x : Fin 256) : packed q k v0 o v1 (ix2 p (⟨1024 + x.val, by have := x.isLt; omega⟩ : Fin 1792)) = k (ix2 p x) := by
  have hx := x.isLt
  unfold packed
  pointwise

theorem packed_v0 (x : Fin 128) : packed q k v0 o v1 (ix2 p (⟨1280 + x.val, by have := x.isLt; omega⟩ : Fin 1792)) = v0 (ix2 p x) := by
  have hx := x.isLt
  unfold packed
  pointwise
  rw [dif_neg (by omega)]
  rw [dif_neg (by omega)]
  rw [dif_pos (by omega)]
  exact congrArg v0 ((ix2_inj ..).2 ⟨rfl, Fin.ext (by dsimp only; omega)⟩)

theorem packed_o0 (x : Fin 128) : packed q k v0 o v1 (ix2 p (⟨1408 + x.val, by have := x.isLt; omega⟩ : Fin 1792)) = o (ix2 p x) := by
  have hx := x.isLt
  unfold packed
  pointwise
  rw [dif_neg (by omega)]
  rw [dif_neg (by omega)]
  rw [dif_neg (by omega)]
  rw [dif_pos (by omega)]
  exact congrArg o ((ix2_inj ..).2 ⟨rfl, Fin.ext (by dsimp only; omega)⟩)

theorem packed_v1 (x : Fin 128) : packed q k v0 o v1 (ix2 p (⟨1536 + x.val, by have := x.isLt; omega⟩ : Fin 1792)) = v1 (ix2 p x) := by
  have hx := x.isLt
  unfold packed
  pointwise
  rw [dif_neg (by omega)]
  rw [dif_neg (by omega)]
  rw [dif_neg (by omega)]
  rw [dif_neg (by omega)]
  rw [dif_pos (by omega)]
  exact congrArg v1 ((ix2_inj ..).2 ⟨rfl, Fin.ext (by dsimp only; omega)⟩)

theorem packed_o1 (x : Fin 128) : packed q k v0 o v1 (ix2 p (⟨1664 + x.val, by have := x.isLt; omega⟩ : Fin 1792)) = o (ix2 p x) := by
  have hx := x.isLt
  unfold packed
  pointwise
  rw [dif_neg (by omega)]
  rw [dif_neg (by omega)]
  rw [dif_neg (by omega)]
  rw [dif_neg (by omega)]
  rw [dif_neg (by omega)]
  exact congrArg o ((ix2_inj ..).2 ⟨rfl, Fin.ext (by dsimp only; omega)⟩)

end

variable (m : (ℓ : Loc nD τ sig) → Buf (Elt Ideal) ℓ) (c : Dev nD)

set_option maxHeartbeats 2000000 in
theorem V13 : V m c main_v13 = (truncf .bf16 (packed (rowsQ (m ((c : Thread nD τ).loc main_arg0)) (m ((c : Thread nD τ).loc main_arg3)))
    (rowsK (m ((c : Thread nD τ).loc main_arg1)) (m ((c : Thread nD τ).loc main_arg4)))
    (extractStridedSlice S24576x128 ![0, 0] (rowsK (m ((c : Thread nD τ).loc main_arg2)) (m ((c : Thread nD τ).loc main_arg5))) slices_S24576x256_S24576x128_0_0)
    (broadcastInDim S24576x128 ![] bcast_S_S24576x128 (constant S_ .f32 0x3F800000#32 : FVec Ideal S_ .f32))
    (extractStridedSlice S24576x128 ![0, 128] (rowsK (m ((c : Thread nD τ).loc main_arg2)) (m ((c : Thread nD τ).loc main_arg5))) slices_S24576x256_S24576x128_0_128))
    bitsLt_bf16_f32 : FVec Ideal S24576x1792 .bf16) := by
  unfold V; after_results
  rfl

/-- The packed array at a query. -/
theorem at_q (b : Fin 4) (t : Fin 4096) (h : Fin 8) (d : Fin 128) :
    (V m c main_v13 : FVec Ideal S24576x1792 .bf16) (ix2 (tok b t) (⟨128 * h.val + d.val, by have := h.isLt; have := d.isLt; omega⟩ : Fin 1792))
      = (m ((c : Thread nD τ).loc main_arg0) : FVec Ideal S4x4096x8x128 .f32) (ix4 b t h d) := by
  rw [V13]
  exact (packed_q _ _ _ _ _ (tok b t) ⟨128 * h.val + d.val, by have := h.isLt; have := d.isLt; omega⟩).trans (rowsQ_at _ _ b t h d)

/-- The packed array at a key. -/
theorem at_k (b : Fin 4) (t : Fin 4096) (g : Fin 2) (d : Fin 128) :
    (V m c main_v13 : FVec Ideal S24576x1792 .bf16) (ix2 (tok b t) (⟨1024 + (128 * g.val + d.val), by have := g.isLt; have := d.isLt; omega⟩ : Fin 1792))
      = (m ((c : Thread nD τ).loc main_arg1) : FVec Ideal S4x4096x2x128 .f32) (ix4 b t g d) := by
  rw [V13]
  exact (packed_k _ _ _ _ _ (tok b t) ⟨128 * g.val + d.val, by have := g.isLt; have := d.isLt; omega⟩).trans (rowsK_at _ _ b t g d)

theorem slice0 (X : FVec Ideal S24576x256 .f32) (p : Fin 24576) (d : Fin 128) :
    extractStridedSlice S24576x128 ![0, 0] X slices_S24576x256_S24576x128_0_0 (ix2 p d) = X (ix2 p (⟨128 * 0 + d.val, by have := d.isLt; omega⟩ : Fin 256)) := by
  have hd := d.isLt
  pointwise

theorem slice1 (X : FVec Ideal S24576x256 .f32) (p : Fin 24576) (d : Fin 128) :
    extractStridedSlice S24576x128 ![0, 128] X slices_S24576x256_S24576x128_0_128 (ix2 p d) = X (ix2 p (⟨128 * 1 + d.val, by have := d.isLt; omega⟩ : Fin 256)) := by
  have hd := d.isLt
  pointwise

theorem ofBits_one : Ideal.ofBits .f32 0x3F800000#32 = 1 := by
  simp [Ideal.ofBits, Ideal.ieee]
  rw [← EReal.coe_mul]
  norm_num

/-- The packed array at a value. -/
theorem at_v (b : Fin 4) (t : Fin 4096) (g : Fin 2) (d : Fin 128) :
    (V m c main_v13 : FVec Ideal S24576x1792 .bf16) (ix2 (tok b t) (⟨1280 + (256 * g.val + d.val), by have := g.isLt; have := d.isLt; omega⟩ : Fin 1792))
      = (m ((c : Thread nD τ).loc main_arg2) : FVec Ideal S4x4096x2x128 .f32) (ix4 b t g d) := by
  have hd := d.isLt
  rw [V13]
  match g with
  | ⟨0, _⟩ =>
    refine Eq.trans (congrArg _ ((ix2_inj ..).2 ⟨rfl, Fin.ext (by show 1280 + (256 * 0 + d.val) = 1280 + d.val; omega)⟩))
      ((packed_v0 _ _ _ _ _ (tok b t) d).trans ((slice0 _ _ d).trans (rowsK_at _ _ b t 0 d)))
  | ⟨1, _⟩ =>
    refine Eq.trans (congrArg _ ((ix2_inj ..).2 ⟨rfl, Fin.ext (by show 1280 + (256 * 1 + d.val) = 1536 + d.val; omega)⟩))
      ((packed_v1 _ _ _ _ _ (tok b t) d).trans ((slice1 _ _ d).trans (rowsK_at _ _ b t 1 d)))

/-- The packed array at a one. -/
theorem at_one (b : Fin 4) (t : Fin 4096) (g : Fin 2) (d : Fin 128) :
    (V m c main_v13 : FVec Ideal S24576x1792 .bf16) (ix2 (tok b t) (⟨1280 + (256 * g.val + (128 + d.val)), by have := g.isLt; have := d.isLt; omega⟩ : Fin 1792))
      = (1 : EReal) := by
  have hd := d.isLt
  rw [V13]
  match g with
  | ⟨0, _⟩ =>
    refine Eq.trans (congrArg _ ((ix2_inj ..).2 ⟨rfl, Fin.ext (by show 1280 + (256 * 0 + (128 + d.val)) = 1408 + d.val; omega)⟩))
      ((packed_o0 _ _ _ _ _ (tok b t) d).trans ofBits_one)
  | ⟨1, _⟩ =>
    refine Eq.trans (congrArg _ ((ix2_inj ..).2 ⟨rfl, Fin.ext (by show 1280 + (256 * 1 + (128 + d.val)) = 1664 + d.val; omega)⟩))
      ((packed_o1 _ _ _ _ _ (tok b t) d).trans ofBits_one)

end Cert.KernelIdeal.Value

end
-- ==== Proof.Ref.lean ====
/- THE REFERENCE, READ AT AN INDEX: at a token, a head and a column it is the plain softmax of the scaled scores, applied to the values. -/
module

public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.At

open Cert.ReferenceIdeal Cert.ReferenceIdeal.Gen Cert.ReferenceIdeal.Read
open Idealize.ShloMosaic Idealize.ShloMosaic.TcCoe Idealize.SL.Sem

variable (x0 : FVec Ideal S4x4096x8x128 .f32) (x1 x2 : FVec Ideal S4x4096x2x128 .f32)

/-- Head `h` of the group that shares key head `g`. -/
def head (g : Fin 2) (h : Fin 4) : Fin 8 := ⟨g.val * 4 + h.val, by have := g.isLt; have := h.isLt; omega⟩

/-- The score of the query at token `t` with the key at token `j`. -/
def sc (b : Fin 4) (g : Fin 2) (h : Fin 4) (t j : Fin 4096) : EReal := ∑ d : Fin 128, x1 (ix4 b j g d) * x0 (ix4 b t (head g h) d)

/-- The score divided by the square root of the head's width. -/
def sd (b : Fin 4) (g : Fin 2) (h : Fin 4) (t j : Fin 4096) : EReal := Ideal.div (sc x0 x1 b g h t j) (Ideal.sqrt ((128 : ℝ) : EReal))

/-- The maximum the softmax subtracts. -/
def top (b : Fin 4) (g : Fin 2) (h : Fin 4) (t : Fin 4096) : EReal := max ⊥ (Finset.univ.fold max ⊥ fun j : Fin 4096 => sd x0 x1 b g h t j)

theorem ofBits_128 : Ideal.ofBits .f32 0x43000000#32 = ((128 : ℝ) : EReal) := by
  simp [Ideal.ofBits, Ideal.ieee]
  rw [← EReal.coe_mul]
  norm_num

theorem ofBits_neg_inf : Ideal.ofBits .f32 0xFF800000#32 = ⊥ := by
  simp [Ideal.ofBits, Ideal.ieee]

theorem v2_at (b : Fin 4) (g : Fin 2) (h : Fin 4) (t j : Fin 4096) :
    val_main_v2 (F := Ideal) x0 x1 (ix5 b g h t j) = sc x0 x1 b g h t j := by
  unfold val_main_v2 val_main_v1 val_main_v0 sc head
  pointwise

theorem v5_at (b : Fin 4) (g : Fin 2) (h : Fin 4) (t j : Fin 4096) :
    val_main_v5 (F := Ideal) x0 x1 (ix5 b g h t j) = sd x0 x1 b g h t j := by
  unfold val_main_v5 val_main_v4 val_main_v3 val_main_cst sd
  pointwise [v2_at, ofBits_128]

theorem v6_at (b : Fin 4) (g : Fin 2) (h : Fin 4) (t : Fin 4096) :
    val_main_v6 (F := Ideal) x0 x1 (ix4 b g h t) = Finset.univ.fold max ⊥ fun j : Fin 4096 => sd x0 x1 b g h t j := by
  unfold val_main_v6 val_main_cst_0
  pointwise [v5_at, ofBits_neg_inf]

theorem v7_at (i : S4x2x4x4096.Idx) : val_main_v7 (F := Ideal) i = (⊥ : EReal) := by
  rw [← ofBits_neg_inf]
  rfl

theorem max_at (x y : FVec Ideal S4x2x4x4096 .f32) (i : S4x2x4x4096.Idx) : maximumf x y i = max (x i) (y i) := rfl

theorem v8_at (b : Fin 4) (g : Fin 2) (h : Fin 4) (t : Fin 4096) :
    val_main_v8 (F := Ideal) x0 x1 (ix4 b g h t) = top x0 x1 b g h t := by
  unfold val_main_v8 top
  rw [max_at, v7_at, v6_at]

theorem v12_at (b : Fin 4) (g : Fin 2) (h : Fin 4) (t j : Fin 4096) :
    val_main_v12 (F := Ideal) x0 x1 (ix5 b g h t j) = Ideal.exp (sd x0 x1 b g h t j - top x0 x1 b g h t) := by
  unfold val_main_v12 val_main_v11 val_main_v10 val_main_v9
  pointwise [v5_at, v8_at]

theorem v13_at (b : Fin 4) (g : Fin 2) (h : Fin 4) (t : Fin 4096) :
    val_main_v13 (F := Ideal) x0 x1 (ix4 b g h t) = 0 + ∑ i : Fin 4096, Ideal.exp (sd x0 x1 b g h t i - top x0 x1 b g h t) := by
  unfold val_main_v13 val_main_cst_2
  pointwise [v12_at]

theorem v16_at (b : Fin 4) (g : Fin 2) (h : Fin 4) (t j : Fin 4096) :
    val_main_v16 (F := Ideal) x0 x1 (ix5 b g h t j)
      = Ideal.div (Ideal.exp (sd x0 x1 b g h t j - top x0 x1 b g h t)) (0 + ∑ i : Fin 4096, Ideal.exp (sd x0 x1 b g h t i - top x0 x1 b g h t)) := by
  unfold val_main_v16 val_main_v15 val_main_v14
  pointwise [v12_at, v13_at]

/-- The reference at token `t` of sequence `b`, head `h` of group `g`, column `l`. -/
theorem v21_at (b : Fin 4) (g : Fin 2) (h : Fin 4) (t : Fin 4096) (l : Fin 128) :
    val_main_v21 (F := Ideal) x0 x1 x2 (ix2 (⟨4096 * b.val + t.val, by have := b.isLt; have := t.isLt; omega⟩ : Fin 16384)
        (⟨512 * g.val + (128 * h.val + l.val), by have := g.isLt; have := h.isLt; have := l.isLt; omega⟩ : Fin 1024))
      = ∑ j : Fin 4096, x2 (ix4 b j g l) * Ideal.div (Ideal.exp (sd x0 x1 b g h t j - top x0 x1 b g h t))
          (0 + ∑ i : Fin 4096, Ideal.exp (sd x0 x1 b g h t i - top x0 x1 b g h t)) := by
  have hb := b.isLt
  have hg := g.isLt
  have hh := h.isLt
  have ht := t.isLt
  have hl := l.isLt
  unfold val_main_v21 val_main_v20 val_main_v19 val_main_v18 val_main_v17
  pointwise [v16_at]

end Cert.ReferenceIdeal.At

end
-- ==== Proof.Final.lean ====
/- THE KERNEL'S RESULT: every grid point's block is the reference's value over the same arguments, when the queries and keys are finite. -/
module

public import proofs.«01_k».proof.Proof.Sweep
public import proofs.«01_k».proof.Proof.Host
public import proofs.«01_k».proof.Proof.Ref

@[expose] public section

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The sequence, the key head and the query block of a grid point. -/
def pB (t : Fin cfg0.N) : Fin 4 := (grid0.coords t) 0
def pG (t : Fin cfg0.N) : Fin 2 := (grid0.coords t) 1
def pI (t : Fin cfg0.N) : Fin 4 := (grid0.coords t) 2

/-- The windows' block indices, by the grid point's coordinates. -/
theorem idx : ∀ t : Fin cfg0.N, win0_0.index t = ![(pB t).val * 4 + (pI t).val, (pG t).val] ∧ win0_1.index t = ![(pB t).val, 8 + (pG t).val]
    ∧ win0_2.index t = ![(pB t).val, 5 + (pG t).val] ∧ win0_3.index t = ![(pB t).val * 4 + (pI t).val, (pG t).val] :=
  (by decide +kernel : ∀ t : Fin grid0.N, _)

/-- The token at row `r` of query block `i`. -/
def tokQ (i : Fin 4) (r : Fin 1024) : Fin 4096 := ⟨1024 * i.val + r.val, by have := i.isLt; have := r.isLt; omega⟩

/-- The block of queries, read at an index. -/
theorem blk_q (t : Fin cfg0.N) (r : Fin 1024) (h : Fin 4) (d : Fin 128) :
    (X0_0 m c t : Vec Ideal S1024x512 .bf16) (ix2 r (⟨128 * h.val + d.val, by have := h.isLt; have := d.isLt; omega⟩ : Fin 512))
      = (m ((c : Thread nD τ).loc main_arg0) : FVec Ideal S4x4096x8x128 .f32) (ix4 (pB t) (tokQ (pI t) r) (Cert.ReferenceIdeal.At.head (pG t) h) d) := by
  have hr := r.isLt
  have hh := h.isLt
  have hd := d.isLt
  have hB := (pB t).isLt
  have hG := (pG t).isLt
  have hI := (pI t).isLt
  refine Eq.trans ?_ (at_q m c (pB t) (tokQ (pI t) r) (Cert.ReferenceIdeal.At.head (pG t) h) d)
  unfold X0_0 Pipeline.Window.fill
  rw [dif_pos (moved0_0 t _)]
  unfold iblk
  blk_ext [idx t, tok, tokQ, Cert.ReferenceIdeal.At.head]

/-- The block of keys, read at an index. -/
theorem blk_k (t : Fin cfg0.N) (j : Fin 4096) (d : Fin 128) :
    (iblk m c 1 t : Vec Ideal S4096x128 .bf16) (ix2 j d)
      = (m ((c : Thread nD τ).loc main_arg1) : FVec Ideal S4x4096x2x128 .f32) (ix4 (pB t) j (pG t) d) := by
  have hj := j.isLt
  have hd := d.isLt
  have hB := (pB t).isLt
  have hG := (pG t).isLt
  refine Eq.trans ?_ (at_k m c (pB t) j (pG t) d)
  unfold iblk
  blk_ext [idx t, tok]

/-- The block of values, read at an index. -/
theorem blk_v (t : Fin cfg0.N) (j : Fin 4096) (d : Fin 128) :
    (iblk m c 2 t : Vec Ideal S4096x256 .bf16) (ix2 j (⟨d.val, by have := d.isLt; omega⟩ : Fin 256))
      = (m ((c : Thread nD τ).loc main_arg2) : FVec Ideal S4x4096x2x128 .f32) (ix4 (pB t) j (pG t) d) := by
  have hj := j.isLt
  have hd := d.isLt
  have hB := (pB t).isLt
  have hG := (pG t).isLt
  refine Eq.trans ?_ (at_v m c (pB t) j (pG t) d)
  unfold iblk
  blk_ext [idx t, tok]

/-- The ones beside the values. -/
theorem blk_one (t : Fin cfg0.N) (j : Fin 4096) (d : Fin 128) :
    (iblk m c 2 t : Vec Ideal S4096x256 .bf16) (ix2 j (⟨128 + d.val, by have := d.isLt; omega⟩ : Fin 256)) = (1 : EReal) := by
  have hj := j.isLt
  have hd := d.isLt
  have hB := (pB t).isLt
  have hG := (pG t).isLt
  refine Eq.trans ?_ (at_one m c (pB t) j (pG t) d)
  unfold iblk
  blk_ext [idx t, tok]

/-- The argument arrays of the value claim. -/
abbrev aQ : FVec Ideal S4x4096x8x128 .f32 := m ((c : Thread nD τ).loc main_arg0)
abbrev aK : FVec Ideal S4x4096x2x128 .f32 := m ((c : Thread nD τ).loc main_arg1)
abbrev aV : FVec Ideal S4x4096x2x128 .f32 := m ((c : Thread nD τ).loc main_arg2)

/-- The kernel's score is the reference's. -/
theorem full_eq (t : Fin cfg0.N) (h : Fin 4) (r : Fin 1024) (j : Fin 4096) :
    full (X0_0 m c t) (iblk m c 1 t) h r j = Cert.ReferenceIdeal.At.sc (aQ m c) (aK m c) (pB t) (pG t) h (tokQ (pI t) r) j := by
  unfold full Cert.ReferenceIdeal.At.sc
  refine Finset.sum_congr rfl fun d _ => ?_
  exact (congrArg₂ (fun a b : EReal => a * b) (blk_q m c t r h d) (blk_k m c t j d)).trans (mul_comm (_ : EReal) _)

section Fin
variable (hq : ∀ i, ∃ x : ℝ, aQ m c i = (x : EReal)) (hk : ∀ i, ∃ x : ℝ, aK m c i = (x : EReal))
include hq hk

/-- Finite queries and keys give real scores. -/
theorem sc_real (b : Fin 4) (g : Fin 2) (h : Fin 4) (t j : Fin 4096) :
    Cert.ReferenceIdeal.At.sc (aQ m c) (aK m c) b g h t j = ((Cert.ReferenceIdeal.At.sc (aQ m c) (aK m c) b g h t j).toReal : EReal) := by
  choose q hq using hq
  choose k hk using hk
  have e : Cert.ReferenceIdeal.At.sc (aQ m c) (aK m c) b g h t j
      = ((∑ d : Fin 128, k (ix4 b j g d) * q (ix4 b t (Cert.ReferenceIdeal.At.head g h) d) : ℝ) : EReal) := by
    unfold Cert.ReferenceIdeal.At.sc
    rw [← Softmax.sum_coe]
    refine Finset.sum_congr rfl fun d _ => ?_
    rw [hq, hk, EReal.coe_mul]
  rw [e, EReal.toReal_coe]

/-- The scores of a grid point as real numbers, by the row of the buffers. -/
def sR (t : Fin cfg0.N) (p j : Fin 4096) : ℝ :=
  (Cert.ReferenceIdeal.At.sc (aQ m c) (aK m c) (pB t) (pG t) ⟨p.val / 1024, by have := p.isLt; omega⟩
    (tokQ (pI t) ⟨p.val % 1024, by omega⟩) j).toReal

omit hq hk in
theorem sR_row (t : Fin cfg0.N) (h : Fin 4) (r : Fin 1024) (j : Fin 4096) :
    sR m c t (row h r) j = (Cert.ReferenceIdeal.At.sc (aQ m c) (aK m c) (pB t) (pG t) h (tokQ (pI t) r) j).toReal := by
  have hh := h.isLt
  have hr := r.isLt
  have e1 : (⟨(row h r).val / 1024, by have := (row h r).isLt; omega⟩ : Fin 4) = h := Fin.ext (by show (1024 * h.val + r.val) / 1024 = h.val; omega)
  have e2 : (⟨(row h r).val % 1024, by omega⟩ : Fin 1024) = r := Fin.ext (by show (1024 * h.val + r.val) % 1024 = r.val; omega)
  unfold sR
  rw [e1, e2]

theorem full_real (t : Fin cfg0.N) (h : Fin 4) (r : Fin 1024) (j : Fin 4096) :
    full (X0_0 m c t) (iblk m c 1 t) h r j = ((sR m c t (row h r) j : ℝ) : EReal) := by
  rw [full_eq, sR_row]
  exact sc_real m c hq hk ..

theorem sd_real (t : Fin cfg0.N) (h : Fin 4) (r : Fin 1024) (j : Fin 4096) :
    Ideal.div ((sR m c t (row h r) j : ℝ) : EReal) (Ideal.sqrt ((128 : ℝ) : EReal))
      = Cert.ReferenceIdeal.At.sd (aQ m c) (aK m c) (pB t) (pG t) h (tokQ (pI t) r) j := by
  unfold Cert.ReferenceIdeal.At.sd
  rw [sR_row, ← sc_real m c hq hk]

/-- The quotient of the weighted sums is the reference's value. -/
theorem quot (t : Fin cfg0.N) (h : Fin 4) (r : Fin 1024) (l : Fin 128) :
    Ideal.div (Softmax.ac 512 (sR m c t (row h r)) (fun j => (iblk m c 2 t : Vec Ideal S4096x256 .bf16) (ix2 j (⟨l.val, by have := l.isLt; omega⟩ : Fin 256))) 8)
        (Softmax.ac 512 (sR m c t (row h r)) (fun _ => 1) 8)
      = Cert.ReferenceIdeal.Read.val_main_v21 (F := Ideal) (aQ m c) (aK m c) (aV m c)
          (ix2 (⟨4096 * (pB t).val + (tokQ (pI t) r).val, by have := (pB t).isLt; have := (tokQ (pI t) r).isLt; omega⟩ : Fin 16384)
            (⟨512 * (pG t).val + (128 * h.val + l.val), by have := (pG t).isLt; have := h.isLt; have := l.isLt; omega⟩ : Fin 1024)) := by
  rw [Softmax.quotient 512 _ _ (by norm_num) 8 (by norm_num), Cert.ReferenceIdeal.At.v21_at]
  simp only [sd_real m c hq hk, blk_v]
  rfl

/-- What a grid point stores, at an index of its block. -/
theorem point (t : Fin cfg0.N) (r : Fin 1024) (h : Fin 4) (l : Fin 128) :
    (outsAt0 m c t : Vec Ideal S1024x512 .bf16) (ix2 r (⟨128 * h.val + l.val, by have := h.isLt; have := l.isLt; omega⟩ : Fin 512))
      = Cert.ReferenceIdeal.Read.val_main_v21 (F := Ideal) (aQ m c) (aK m c) (aV m c)
          (ix2 (⟨4096 * (pB t).val + (tokQ (pI t) r).val, by have := (pB t).isLt; have := (tokQ (pI t) r).isLt; omega⟩ : Fin 16384)
            (⟨512 * (pG t).val + (128 * h.val + l.val), by have := (pG t).isLt; have := h.isLt; have := l.isLt; omega⟩ : Fin 1024)) := by
  refine Eq.trans ?_ (quot m c hq hk t h r l)
  unfold outsAt0
  match h with
  | ⟨0, _⟩ => exact out_head0 c (grid0.coords t) _ _ _ _ _ _ _ _ _ _ _ _ _ _ _ (sR m c t) (full_real m c hq hk t) (blk_one m c t) r l
  | ⟨1, _⟩ => exact out_head1 c (grid0.coords t) _ _ _ _ _ _ _ _ _ _ _ _ _ _ _ (sR m c t) (full_real m c hq hk t) (blk_one m c t) r l
  | ⟨2, _⟩ => exact out_head2 c (grid0.coords t) _ _ _ _ _ _ _ _ _ _ _ _ _ _ _ (sR m c t) (full_real m c hq hk t) (blk_one m c t) r l
  | ⟨3, _⟩ => exact out_head3 c (grid0.coords t) _ _ _ _ _ _ _ _ _ _ _ _ _ _ _ (sR m c t) (full_real m c hq hk t) (blk_one m c t) r l

/-- The kernel's result array is the reference's value of the same arguments. -/
theorem final : (dats m 0 c).arrAt 3 (cfgs 0).N = Cert.ReferenceIdeal.Read.val_main_v21 (F := Ideal) (aQ m c) (aK m c) (aV m c) := by
  refine (dats m 0 c).arrAt_eq_of_covers 3 _ (by decide +kernel) fun t _ y => ?_
  blk_simp
  rw [after0_3]
  have e : ∃ (r : Fin 1024) (h : Fin 4) (l : Fin 128), y = ix2 r (⟨128 * h.val + l.val, by have := h.isLt; have := l.isLt; omega⟩ : Fin 512) := by
    idx_vars y
    have h1 := y1.isLt
    exact ⟨y0, ⟨y1.val / 128, by omega⟩, ⟨y1.val % 128, by omega⟩, (ix2_inj ..).2 ⟨rfl, Fin.ext (by show y1.val = 128 * (y1.val / 128) + y1.val % 128; omega)⟩⟩
  obtain ⟨r, h, l, rfl⟩ := e
  refine (point m c hq hk t r h l).trans ?_
  have hr := r.isLt
  have hh := h.isLt
  have hl := l.isLt
  have hB := (pB t).isLt
  have hG := (pG t).isLt
  have hI := (pI t).isLt
  blk_ext [idx t, tokQ]

end Fin

end Cert.KernelIdeal.Value

end
-- ==== Proof.Finite.lean ====
/- THE PRECONDITION: where it holds every query and every key is a real number. -/
module

public import proofs.«01_k».proof.Proof.Gen.Pre_finite
public import Idealize.ShloMosaic.Lib.ReduceAll
public import Idealize.ShloMosaic.Lib.Pointwise
public import Idealize.ShloMosaic.Lib.Pipeline.ValueKit

@[expose] public section

noncomputable section

namespace Cert.Pre_finite.Use

open Cert.Pre_finite Cert.Pre_finite.Gen
open Idealize.ShloMosaic Idealize.ShloMosaic.TcCoe Idealize.SL.Sem

theorem ofBits_inf : Ideal.ofBits .f32 0x7F800000#32 = ⊤ := by
  simp [Ideal.ofBits, Ideal.ieee]

/-- A value whose magnitude is below infinity is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf] at h
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

variable (a0 : FVec Ideal S4x4096x8x128 .f32) (a1 a2 : FVec Ideal S4x4096x2x128 .f32)
  (a3 : FVec Ideal S1x8192x8x128 .f32) (a4 a5 : FVec Ideal S1x8192x2x128 .f32)
  (h : fn (F := Ideal) a0 a1 a2 a3 a4 a5 = fun _ => 1#1)

include h

theorem both : (∀ i, ∃ r : ℝ, a0 i = (r : EReal)) ∧ (∀ i, ∃ r : ℝ, a1 i = (r : EReal)) := by
  have e := congrFun h (Shape.Idx.first h_S_)
  unfold fn at e
  dsimp only at e
  have e2 := IntOp.andi_eq_one.1 e
  refine ⟨fun i => ?_, fun i => ?_⟩
  · exact real_of_lt _ (Host.reduce_andi_all _ _ _ _ _ e2.1 i)
  · exact real_of_lt _ (Host.reduce_andi_all _ _ _ _ _ e2.2 i)

end Cert.Pre_finite.Use

end
-- ==== Proof.MoeRun.lean ====
/- THE EXPERT FEED-FORWARD CALL'S BODY, by the path its control takes: what it leaves in its output block and in the buffer that keeps the
   rounded block of tokens. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic

@[expose] public section

set_option maxRecDepth 16384
set_option backward.proofsInPublic true

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and the buffer of rounded tokens. -/
abbrev tabE : Memref sig .tc .smem S104 .i32 := Memref.whole main_v29
abbrev tabN : Memref sig .tc .smem S1 .i32 := Memref.whole main_v6
abbrev keep : Memref sig .tc .vmem S512x2048 .bf16 := Memref.whole cc0_scratch0

/-- The number of groups in use, as the body reads it. -/
abbrev nv (T1 : S1.Idx → Elt F .i32) : BitVec 32 :=
  View.readAt (Elt F) tabN.view (Rect.unit (s := S1) ![0] S1.size inb_S1_S1_0).toLoadRect T1 (Shape.Idx.first (numel1_S1.symm ▸ Nat.one_pos))

section
variable (c : Dev nD) (i : grid0.Coords)
  (arg4 : Memref sig .tc .vmem S512x2048 .f32) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S1x1024x2048 .bf16) (harg7 : arg7.IsWhole)
  (arg8 : Memref sig .tc .vmem S512x2048 .f32) (harg8 : arg8.IsWhole) (T0 : S104.Idx → Elt F .i32) (T1 : S1.Idx → Elt F .i32)
  (x0 : Vec F S512x2048 .f32) (x1 x2 : Vec F S1x2048x1024 .bf16) (x3 : Vec F S1x1024x2048 .bf16)

/-- What the body reads and leaves as it was: its blocks of tokens and weights, and the tables. -/
def held : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tabE.view.loc (c : Thread nD τ) ↦{fullShare.right} T0)
    ∗ (tabN.view.loc (c : Thread nD τ) ↦{fullShare.right} T1))

/-- The body at a grid point, on given buffers. -/
abbrev body := cc0_moe_ffn (F := F) i tabE (Memref.isWhole_whole _) tabN (Memref.isWhole_whole _) arg4 harg4 arg5 harg5 arg6 harg6 arg7 harg7 arg8 harg8
  keep (Memref.isWhole_whole _)

theorem pay3_congr {a a' : Vec F S512x2048 .bf16} {b b' d d' : Vec F S1x2048x1024 .bf16} {o o' : Vec F S512x2048 .f32} {e e' : Vec F S1x1024x2048 .bf16}
    (ha : a = a') (hb : b = b') (hd : d = d') (ho : o = o') (he : e = e') : k0_pay3 a b d o e = k0_pay3 a' b' d' o' e' := by
  subst ha hb hd ho he; rfl

/-- The buffer of rounded tokens at given contents. -/
def kept (c : Dev nD) (a : Vec F S512x2048 .bf16) : sProp 𝕄 :=
  iprop(∃ f, ⌜keep.view.read (Elt F) f = a⌝ ∗ (keep.view.loc (c : Thread nD τ) ↦{fullShare} f))

set_option maxHeartbeats 8000000 in
/-- The first tile of a group in use: the tokens are rounded and kept, the sums start from zero. -/
theorem run_first (h1 : k0_cond1 i (nv T1) = 1#1) (h2 : k0_cond2 i = 1#1) (h3 : ¬ k0_cond3 i (nv T1) = 1#1)
    (xa : Vec F S512x2048 .bf16) (K : PUnit → sProp 𝕄) :
    iprop(held c arg4 arg5 arg6 arg7 T0 T1 x0 x1 x2 x3 ∗ (∃ d, owns (c : Thread nD τ) arg8 fullShare d) ∗ kept c xa
      ∗ (iprop(held c arg4 arg5 arg6 arg7 T0 T1 x0 x1 x2 x3 ∗ owns (c : Thread nD τ) arg8 fullShare (k0_pay3 (k0_pay1 x0) x1 x2 k0_pay2 x3)
          ∗ kept c (k0_pay1 x0)) -∗ K ⟨⟩))
      ⊢ wp frame (wpE (defs₀ (F := F)) Variants.none c none) Set.univ (body i arg4 harg4 arg5 harg5 arg6 harg6 arg7 harg7 arg8 harg8) K := by
  unfold held kept owns body
  rw [cc0_moe_ffn_eq_skeleton]; unfold cc0_moe_ffn_skel
  iintro ⟨⟨H0, H1, H2, H3, HT0, HT1⟩, ⟨%d4, %f4, -, HO4⟩, ⟨%fa, -, HS0⟩, Hk⟩
  have hS0 : keep.IsWhole := Memref.isWhole_whole _
  have hT0 : tabE.IsWhole := Memref.isWhole_whole _
  have hT1 : tabN.IsWhole := Memref.isWhole_whole _
  sl_exec! (disch := first | (guard_target = k0_cond1 _ _ = _; exact h1) | (guard_target = k0_cond2 _ = _; exact h2) | (guard_target = ¬(k0_cond3 _ _ = _); exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      unfold run_first.sl.HO4_2
      rw [View.read_writes_full]
      refine pay3_congr ?_ (View.readAt_rep_full ..) (View.readAt_rep_full ..) ?_ (View.readAt_rep_full ..)
      · unfold run_first.sl.v13 run_first.sl.HS0_1
        exact (View.readCov_full ..).trans (congrArg k0_pay1 (View.readAt_rep_full ..))
      · unfold run_first.sl.v30
        exact View.readCov_full ..
  iexists _; isplitr; swap
  · iexact HS0
  · ipureintro
    unfold run_first.sl.HS0_1
    exact (View.read_writes_full ..).trans (congrArg k0_pay1 (View.readAt_rep_full ..))

set_option maxHeartbeats 8000000 in
/-- A later tile of a group in use: the tile's product is added to the sums. -/
theorem run_next (h1 : k0_cond1 i (nv T1) = 1#1) (h2 : ¬ k0_cond2 i = 1#1) (h3 : ¬ k0_cond3 i (nv T1) = 1#1)
    (xa : Vec F S512x2048 .bf16) (xo : Vec F S512x2048 .f32) (K : PUnit → sProp 𝕄) :
    iprop(held c arg4 arg5 arg6 arg7 T0 T1 x0 x1 x2 x3 ∗ owns (c : Thread nD τ) arg8 fullShare xo ∗ kept c xa
      ∗ (iprop(held c arg4 arg5 arg6 arg7 T0 T1 x0 x1 x2 x3 ∗ owns (c : Thread nD τ) arg8 fullShare (k0_pay3 xa x1 x2 xo x3) ∗ kept c xa) -∗ K ⟨⟩))
      ⊢ wp frame (wpE (defs₀ (F := F)) Variants.none c none) Set.univ (body i arg4 harg4 arg5 harg5 arg6 harg6 arg7 harg7 arg8 harg8) K := by
  unfold held kept owns body
  rw [cc0_moe_ffn_eq_skeleton]; unfold cc0_moe_ffn_skel
  iintro ⟨⟨H0, H1, H2, H3, HT0, HT1⟩, ⟨%f4, %hf4, HO4⟩, ⟨%fa, %hfa, HS0⟩, Hk⟩
  have hS0 : keep.IsWhole := Memref.isWhole_whole _
  have hT0 : tabE.IsWhole := Memref.isWhole_whole _
  have hT1 : tabN.IsWhole := Memref.isWhole_whole _
  sl_exec! (disch := first | (guard_target = k0_cond1 _ _ = _; exact h1) | (guard_target = ¬(k0_cond2 _ = _); exact h2) | (guard_target = ¬(k0_cond3 _ _ = _); exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      unfold run_next.sl.HO4_1
      rw [View.read_writes_full]
      exact pay3_congr ((View.readAt_full ..).trans hfa) (View.readAt_rep_full ..) (View.readAt_rep_full ..) ((View.readAt_full ..).trans hf4)
        (View.readAt_rep_full ..)
  iexists _; isplitr; swap
  · iexact HS0
  · ipureintro; exact hfa

set_option maxHeartbeats 8000000 in
/-- The first tile of a group not in use: its block is set to zero. -/
theorem run_zero (h1 : ¬ k0_cond1 i (nv T1) = 1#1) (h3 : k0_cond3 i (nv T1) = 1#1)
    (xa : Vec F S512x2048 .bf16) (K : PUnit → sProp 𝕄) :
    iprop(held c arg4 arg5 arg6 arg7 T0 T1 x0 x1 x2 x3 ∗ (∃ d, owns (c : Thread nD τ) arg8 fullShare d) ∗ kept c xa
      ∗ (iprop(held c arg4 arg5 arg6 arg7 T0 T1 x0 x1 x2 x3 ∗ owns (c : Thread nD τ) arg8 fullShare k0_pay4 ∗ kept c xa) -∗ K ⟨⟩))
      ⊢ wp frame (wpE (defs₀ (F := F)) Variants.none c none) Set.univ (body i arg4 harg4 arg5 harg5 arg6 harg6 arg7 harg7 arg8 harg8) K := by
  unfold held kept owns body
  rw [cc0_moe_ffn_eq_skeleton]; unfold cc0_moe_ffn_skel
  iintro ⟨⟨H0, H1, H2, H3, HT0, HT1⟩, ⟨%d4, %f4, -, HO4⟩, HS0, Hk⟩
  have hT0 : tabE.IsWhole := Memref.isWhole_whole _
  have hT1 : tabN.IsWhole := Memref.isWhole_whole _
  sl_exec! (disch := first | (guard_target = ¬(k0_cond1 _ _ = _); exact h1) | (guard_target = k0_cond3 _ _ = _; exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      first | rw [View.read_writes_full] | (unfold run_zero.sl.HO4_1; rw [View.read_writes_full])
  iexact HS0

set_option maxHeartbeats 8000000 in
/-- A later tile of a group not in use: nothing is done. -/
theorem run_idle (h1 : ¬ k0_cond1 i (nv T1) = 1#1) (h3 : ¬ k0_cond3 i (nv T1) = 1#1) (K : PUnit → sProp 𝕄) :
    iprop((tabN.view.loc (c : Thread nD τ) ↦{fullShare.right} T1) ∗ (iprop(tabN.view.loc (c : Thread nD τ) ↦{fullShare.right} T1) -∗ K ⟨⟩))
      ⊢ wp frame (wpE (defs₀ (F := F)) Variants.none c none) Set.univ (body i arg4 harg4 arg5 harg5 arg6 harg6 arg7 harg7 arg8 harg8) K := by
  unfold body
  rw [cc0_moe_ffn_eq_skeleton]; unfold cc0_moe_ffn_skel
  iintro ⟨HT1, Hk⟩
  have hT1 : tabN.IsWhole := Memref.isWhole_whole _
  sl_exec! (disch := first | (guard_target = ¬(k0_cond1 _ _ = _); exact h1) | (guard_target = ¬(k0_cond3 _ _ = _); exact h3))
  sl_step
  iapply Hk
  iexact HT1

end

end Cert.Kernel2Ideal.Moe

end
-- ==== Proof.MoeSched.lean ====
/- THE EXPERT FEED-FORWARD CALL'S SCHEDULE at any tables in range: the grid's coordinates, the body's conditions, the blocks its windows take
   and when its output is written back. -/
module

public import proofs.«01_k».proof.Proof.MoeRun
public import Idealize.ShloMosaic.Lib.Affine
public import Idealize.ShloMosaic.Lib.Pointwise

@[expose] public section

set_option maxRecDepth 16384
set_option backward.proofsInPublic true

noncomputable section

namespace Cert.Kernel2Ideal.Moe

open Cert.Kernel2Ideal Cert.Kernel2Ideal.Gen
open Idealize.ShloMosaic
open Idealize.ShloMosaic.TcCoe
open Idealize.SL.Sem
open Idealize.ShloMosaic.Pipeline (Dat Cfg Window)

variable {F : FTy → Type} [FloatOps F]

/-- The tables are in range: every group is given to one of the eight experts, and at least one of the 104 groups is in use. -/
structure InRange (T0 : S104.Idx → BitVec 32) (T1 : S1.Idx → BitVec 32) : Prop where
  expert : ∀ j, (T0 j).toNat < 8
  pos : ∀ j, 1 ≤ (T1 j).toNat
  le : ∀ j, (T1 j).toNat ≤ 104

/-- The number of groups in use. -/
def used (T1 : S1.Idx → BitVec 32) : ℕ := (T1 (ix1 (0 : Fin 1))).toNat

theorem S1_idx (j : S1.Idx) : j = ix1 (0 : Fin 1) := by
  funext a
  match a with
  | ⟨0, _⟩ => exact Subsingleton.elim (α := Fin 1) _ _

/-- The coordinates of the grid's points. -/
theorem crd0 : ∀ t : Fin grid0.N, ((grid0.coords t) 0).val = t.val / 7 := by decide +kernel
theorem crd1 : ∀ t : Fin grid0.N, ((grid0.coords t) 1).val = t.val % 7 := by decide +kernel

theorem slt_small : ∀ (a : Fin 104) (n : Fin 105),
    Scalar.cmpi .ne (Scalar.extui (Scalar.cmpi .slt (BitVec.ofNat 32 a.val) (BitVec.ofNat 32 n.val)) : BitVec 32) 0#32 = 1#1 ↔ a.val < n.val := by
  decide +kernel

theorem eq_small : ∀ (b : Fin 7),
    Scalar.cmpi .ne (Scalar.extui (Scalar.cmpi .eq (BitVec.ofNat 32 b.val) 0#32) : BitVec 32) 0#32 = 1#1 ↔ b.val = 0 := by
  decide +kernel

theorem last_small : ∀ (a : Fin 104) (n : Fin 105), 1 ≤ n.val →
    (Scalar.minsi (BitVec.ofNat 32 a.val) (Scalar.subi (BitVec.ofNat 32 n.val) 1#32)).toNat = min a.val (n.val - 1) := by
  decide +kernel

theorem slt1_small : ∀ (a : Fin 104) (n : Fin 105), Scalar.cmpi .slt (BitVec.ofNat 32 a.val) (BitVec.ofNat 32 n.val) = 1#1 ↔ a.val < n.val := by
  decide +kernel

theorem sge_small : ∀ (a : Fin 104) (n : Fin 105), Scalar.cmpi .sge (BitVec.ofNat 32 a.val) (BitVec.ofNat 32 n.val) = 1#1 ↔ ¬ a.val < n.val := by
  decide +kernel

theorem zero_small : ∀ b : Fin 7, Scalar.cmpi .eq (BitVec.ofNat 32 b.val) 0#32 = 1#1 ↔ b.val = 0 := by decide +kernel

theorem and_small : ∀ p q : BitVec 1, Scalar.cmpi .ne (Scalar.extui (Scalar.andi p q) : BitVec 32) 0#32 = 1#1 ↔ p = 1#1 ∧ q = 1#1 := by decide +kernel

theorem ofNat_toNat' (w : BitVec 32) : BitVec.ofNat 32 w.toNat = w := by simp

theorem cond1_iff (i : grid0.Coords) (w : BitVec 32) (hw : w.toNat ≤ 104) : k0_cond1 i w = 1#1 ↔ (i 0).val < w.toNat := by
  have e := slt_small ⟨(i 0).val, (i 0).isLt⟩ ⟨w.toNat, by omega⟩
  rw [ofNat_toNat'] at e
  exact e

theorem cond2_iff (i : grid0.Coords) : k0_cond2 i = 1#1 ↔ (i 1).val = 0 := eq_small ⟨(i 1).val, (i 1).isLt⟩

theorem cond3_iff (i : grid0.Coords) (w : BitVec 32) (hw : w.toNat ≤ 104) : k0_cond3 i w = 1#1 ↔ ¬ (i 0).val < w.toNat ∧ (i 1).val = 0 := by
  have e := sge_small ⟨(i 0).val, (i 0).isLt⟩ ⟨w.toNat, by omega⟩
  have e' := and_small (Scalar.cmpi .sge (BitVec.ofNat 32 (i 0).val) w) (Scalar.cmpi .eq (BitVec.ofNat 32 (i 1).val) 0#32)
  rw [ofNat_toNat'] at e
  have e2 := zero_small ⟨(i 1).val, (i 1).isLt⟩
  rw [← e, ← e2]
  exact e'

section Tables
variable (T0 : S104.Idx → BitVec 32) (T1 : S1.Idx → BitVec 32)

/-- The tables' contents. -/
def pf : pre0.Contents (Elt F) := fun
  | ⟨0, _⟩ => (T0 : S104.Idx → BitVec 32)
  | ⟨1, _⟩ => (T1 : S1.Idx → BitVec 32)
  | ⟨_ + 2, h⟩ => absurd h (by simp)

theorem word_n (r : Rect S1) (h1 : r.shape.numel = 1) : (pf (F := F) T0 T1).at 1 r h1 = T1 (ix1 (0 : Fin 1)) :=
  congrArg T1 (S1_idx _)

theorem word_e (i : grid0.Coords) : (pf (F := F) T0 T1).at 0 (Rect.unit (s := S104) ![(BitVec.ofNat 32 (i 0).val).toNat] S1.size (k0_off1_inb i)) numel1_S1
    = T0 (ix1 ((i 0) : Fin 104)) := by
  refine congrArg T0 (funext fun a => ?_)
  match a with
  | ⟨0, _⟩ =>
    refine Fin.ext ?_
    have h := (i 0).isLt
    show (BitVec.ofNat 32 (i 0).val).toNat + 1 * _ = (i 0).val
    have e : (BitVec.ofNat 32 (i 0).val).toNat = (i 0).val := by
      rw [BitVec.toNat_ofNat]; exact Nat.mod_eq_of_lt (lt_trans h (by decide))
    exact (congrArg₂ (fun a b : ℕ => a + b) e rfl).trans (Nat.add_zero _)

theorem nv_eq : nv (F := F) T1 = T1 (ix1 (0 : Fin 1)) := congrArg T1 (S1_idx _)

variable (h : InRange T0 T1)
include h

theorem ix_x (i : grid0.Coords) : cc0_transform_0 (F := F) inb_S1_S1_0 numel1_S1 (pf T0 T1) i = ![min (i 0).val (used T1 - 1), 0] := by
  have e := last_small ⟨(i 0).val, (i 0).isLt⟩ ⟨(T1 (ix1 (0 : Fin 1))).toNat, by have := h.le (ix1 (0 : Fin 1)); omega⟩ (h.pos _)
  rw [ofNat_toNat'] at e
  unfold cc0_transform_0
  rw [word_n]
  exact congrArg (fun a : ℕ => (![a, 0] : Fin 2 → ℕ)) e

/-- The tile of the hidden layer a point takes: past the groups in use, the last. -/
def tile (i : grid0.Coords) : ℕ := if (i 0).val < used T1 then (i 1).val else 6

omit h in
theorem sel_small (c : BitVec 1) (b : BitVec 32) : (Scalar.select c b 6#32 : BitVec 32) = if c = 1#1 then b else 6#32 := rfl

theorem tile_eq (i : grid0.Coords) :
    (Scalar.select (Scalar.cmpi .slt (BitVec.ofNat 32 (i 0).val) (T1 (ix1 (0 : Fin 1)))) (BitVec.ofNat 32 (i 1).val) 6#32 : BitVec 32).toNat = tile T1 i := by
  have e := slt1_small ⟨(i 0).val, (i 0).isLt⟩ ⟨(T1 (ix1 (0 : Fin 1))).toNat, by have := h.le (ix1 (0 : Fin 1)); omega⟩
  rw [ofNat_toNat'] at e
  have hb := (i 1).isLt
  unfold tile used
  by_cases hc : (i 0).val < (T1 (ix1 (0 : Fin 1))).toNat
  · rw [if_pos hc, e.2 hc]
    show (BitVec.ofNat 32 (i 1).val).toNat = _
    rw [BitVec.toNat_ofNat]; exact Nat.mod_eq_of_lt (lt_trans hb (by decide))
  · rw [if_neg hc]
    have e0 : ¬ Scalar.cmpi .slt (BitVec.ofNat 32 (i 0).val) (T1 (ix1 (0 : Fin 1))) = 1#1 := fun hh => hc (e.1 hh)
    rw [sel_small, if_neg e0]
    rfl

theorem ix_w1 (i : grid0.Coords) : cc0_transform_1 (F := F) k0_off1_inb numel1_S1 inb_S1_S1_0 (pf T0 T1) i
    = ![(T0 (ix1 ((i 0) : Fin 104))).toNat, 0, tile T1 i] := by
  unfold cc0_transform_1
  rw [word_n, ← tile_eq T0 T1 h i]
  exact congrArg (fun a : BitVec 32 => (![a.toNat, 0, _] : Fin 3 → ℕ)) (word_e T0 T1 i)

theorem ix_w3 (i : grid0.Coords) : cc0_transform_2 (F := F) k0_off1_inb numel1_S1 inb_S1_S1_0 (pf T0 T1) i
    = ![(T0 (ix1 ((i 0) : Fin 104))).toNat, 0, tile T1 i] := ix_w1 T0 T1 h i

theorem ix_w2 (i : grid0.Coords) : cc0_transform_3 (F := F) k0_off1_inb numel1_S1 inb_S1_S1_0 (pf T0 T1) i
    = ![(T0 (ix1 ((i 0) : Fin 104))).toNat, tile T1 i, 0] := by
  unfold cc0_transform_3
  rw [word_n, ← tile_eq T0 T1 h i]
  exact congrArg (fun a : BitVec 32 => (![a.toNat, _, 0] : Fin 3 → ℕ)) (word_e T0 T1 i)

omit h in
theorem tile_le (i : grid0.Coords) : tile T1 i ≤ 6 := by
  have hb : (i 1).val < 7 := (i 1).isLt
  unfold tile
  split <;> omega

/-- Every block lies in its array. -/
theorem ok : ok0 (F := F) (pf T0 T1) := by
  have hx : ∀ i : grid0.Coords, ∀ a, (cc0_transform_0 (F := F) inb_S1_S1_0 numel1_S1 (pf T0 T1) i a + 1) * S512x2048.size a ≤ S53248x2048.size a := by
    intro i
    have ha : (i 0).val < 104 := (i 0).isLt
    rw [ix_x T0 T1 h]
    intro a
    match a with
    | ⟨0, _⟩ => show (min (i 0).val (used T1 - 1) + 1) * 512 ≤ 53248; omega
    | ⟨1, _⟩ => show (0 + 1) * 2048 ≤ 2048; omega
  have hw : ∀ i : grid0.Coords, ∀ a, (cc0_transform_1 (F := F) k0_off1_inb numel1_S1 inb_S1_S1_0 (pf T0 T1) i a + 1) * S1x2048x1024.size a ≤ S8x2048x7168.size a := by
    intro i
    have ht := tile_le T1 i
    have he := h.expert (ix1 ((i 0) : Fin 104))
    rw [ix_w1 T0 T1 h]
    intro a
    match a with
    | ⟨0, _⟩ => show ((T0 (ix1 ((i 0) : Fin 104))).toNat + 1) * 1 ≤ 8; omega
    | ⟨1, _⟩ => show (0 + 1) * 2048 ≤ 2048; omega
    | ⟨2, _⟩ => show (tile T1 i + 1) * 1024 ≤ 7168; omega
  have hw2 : ∀ i : grid0.Coords, ∀ a, (cc0_transform_3 (F := F) k0_off1_inb numel1_S1 inb_S1_S1_0 (pf T0 T1) i a + 1) * S1x1024x2048.size a ≤ S8x7168x2048.size a := by
    intro i
    have ht := tile_le T1 i
    have he := h.expert (ix1 ((i 0) : Fin 104))
    rw [ix_w2 T0 T1 h]
    intro a
    match a with
    | ⟨0, _⟩ => show ((T0 (ix1 ((i 0) : Fin 104))).toNat + 1) * 1 ≤ 8; omega
    | ⟨1, _⟩ => show (tile T1 i + 1) * 1024 ≤ 7168; omega
    | ⟨2, _⟩ => show (0 + 1) * 2048 ≤ 2048; omega
  exact ⟨fun i => ⟨hx i, .inl rfl⟩, fun i => ⟨hw i, .inr (Affine.block_words_dvd (by decide) (by decide))⟩,
    fun i => ⟨hw i, .inr (Affine.block_words_dvd (by decide) (by decide))⟩, fun i => ⟨hw2 i, .inr (Affine.block_words_dvd (by decide) (by decide))⟩⟩

/-- The tables as the launch takes them, and the pipeline at them. -/
def adm : (pcfg0 (F := F)).Adm := ⟨pf T0 T1, ok T0 T1 h⟩
abbrev cf : Pipeline.Cfg sig Λ₀ := cfg0 (F := F) (adm T0 T1 h)

/-- The output's block is written back after a group's last tile; -/
theorem flush4 (t : Fin (cf (F := F) T0 T1 h).N) : ((cf (F := F) T0 T1 h).win (4 : Fin 5)).flush t = decide (t.val % 7 = 6) := by
  rw [Window.flush_eq_flushF]
  exact (by decide +kernel : ∀ t : Fin grid0.N, (true && (decide (t.val + 1 = grid0.N) || decide (∃ h : t.val + 1 < grid0.N, ∃ a, cc0_transform_4 (grid0.coords ⟨t.val + 1, h⟩) a ≠ cc0_transform_4 (grid0.coords t) a))) = decide (t.val % 7 = 6)) t

set_option maxHeartbeats 4000000 in
/-- it is left alone at the later tiles of the groups not in use; -/
theorem idle4 (t : Fin (cf (F := F) T0 T1 h).N) : (cf (F := F) T0 T1 h).idle (4 : Fin 5) ((cf (F := F) T0 T1 h).grid.coords t)
    = decide (¬ t.val / 7 < used T1 ∧ t.val % 7 ≠ 0) := by
  have hn := h.le (ix1 (0 : Fin 1))
  have e1 := cond1_iff (grid0.coords t) (T1 (ix1 (0 : Fin 1))) hn
  have e2 := cond2_iff (grid0.coords t)
  have e3 := cond3_iff (grid0.coords t) (T1 (ix1 (0 : Fin 1))) hn
  rw [crd0 t] at e1 e3
  rw [crd1 t] at e2 e3
  have ew : (pf (F := F) T0 T1).atD 1 ![0] = T1 (ix1 (0 : Fin 1)) := by
    unfold Pipeline.Prefetch.Contents.atD
    rw [dif_pos (by decide)]
    exact congrArg T1 (S1_idx _)
  show (!(k0_cond1 (grid0.coords t) ((pf (F := F) T0 T1).atD 1 ![0]) == 1#1 && k0_cond2 (grid0.coords t) == 1#1) && !(k0_cond1 (grid0.coords t) ((pf (F := F) T0 T1).atD 1 ![0]) == 1#1) && !(k0_cond3 (grid0.coords t) ((pf (F := F) T0 T1).atD 1 ![0]) == 1#1)) = _
  rw [ew]
  rw [Bool.eq_iff_iff]
  simp only [Bool.and_eq_true, Bool.not_eq_true', beq_eq_false_iff_ne, ne_eq, decide_eq_true_eq, Bool.and_eq_false_iff, e1, e2, e3]
  unfold used
  tauto

/-- and it holds nothing yet at a group's first tile. -/
theorem fresh4 (n : ℕ) (hn : n ≤ (cf (F := F) T0 T1 h).N) : (cf (F := F) T0 T1 h).fresh (4 : Fin 5) n = decide (n % 7 = 0) := by
  refine Cfg.fresh_tab _ (4 : Fin 5) (fun n => decide (n % 7 = 0)) rfl (fun t => ?_) n hn
  rw [flush4, idle4]
  rw [Bool.eq_iff_iff]
  simp only [Bool.or_eq_true, Bool.and_eq_true, decide_eq_true_eq]
  omega

end Tables

end Cert.Kernel2Ideal.Moe

end
-- ==== Proof.MoeData.lean ====
/- THE EXPERT FEED-FORWARD CALL'S PROOF DATA at any tables in range: what the kept tokens and the output's block hold after every grid point, and
   that the body keeps to it. -/
module

public import proofs.«01_k».proof.Proof.MoeSched

@[expose] public section

set_option maxRecDepth 16384
set_option backward.proofsInPublic true

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S104.Idx → BitVec 32) (T1 : S1.Idx → BitVec 32) (h : InRange T0 T1)
  (m : (ℓ : Loc nD τ sig) → Buf (Elt F) ℓ)

/-- Window `w`'s block at point `t`, read off its array at launch. -/
def iblk (c : Dev nD) (w : Fin (cf (F := F) T0 T1 h).W) (t : Fin (cf (F := F) T0 T1 h).N) :
    (((cf (F := F) T0 T1 h).win w).xblock ((cf (F := F) T0 T1 h).grid.coords t)).Idx → Elt F ((cf (F := F) T0 T1 h).win w).elt :=
  (((cf (F := F) T0 T1 h).win w).blk t).view.read (Elt F) (m (((cf (F := F) T0 T1 h).win w).arr.view.loc (c : Thread nD τ)))

/-- The blocks of tokens and weights at a point. -/
abbrev bx (c : Dev nD) (t : Fin (cf (F := F) T0 T1 h).N) : Vec F S512x2048 .f32 := iblk T0 T1 h m c (0 : Fin 5) t
abbrev bw1 (c : Dev nD) (t : Fin (cf (F := F) T0 T1 h).N) : Vec F S1x2048x1024 .bf16 := iblk T0 T1 h m c (1 : Fin 5) t
abbrev bw3 (c : Dev nD) (t : Fin (cf (F := F) T0 T1 h).N) : Vec F S1x2048x1024 .bf16 := iblk T0 T1 h m c (2 : Fin 5) t
abbrev bw2 (c : Dev nD) (t : Fin (cf (F := F) T0 T1 h).N) : Vec F S1x1024x2048 .bf16 := iblk T0 T1 h m c (3 : Fin 5) t

/-- The sums in the output's block and the kept tokens after a point, from those before it. -/
def step (c : Dev nD) (t : Fin (cf (F := F) T0 T1 h).N) (p : Vec F S512x2048 .f32 × Vec F S512x2048 .bf16) : Vec F S512x2048 .f32 × Vec F S512x2048 .bf16 :=
  if t.val / 7 < used T1 then
    if t.val % 7 = 0 then (k0_pay3 (k0_pay1 (bx T0 T1 h m c t)) (bw1 T0 T1 h m c t) (bw3 T0 T1 h m c t) k0_pay2 (bw2 T0 T1 h m c t), k0_pay1 (bx T0 T1 h m c t))
    else (k0_pay3 p.2 (bw1 T0 T1 h m c t) (bw3 T0 T1 h m c t) p.1 (bw2 T0 T1 h m c t), p.2)
  else if t.val % 7 = 0 then (k0_pay4, p.2) else p

/-- The same after every point: before the first, anything. -/
def traj (c : Dev nD) : (n : ℕ) → n < (cf (F := F) T0 T1 h).N → Vec F S512x2048 .f32 × Vec F S512x2048 .bf16
  | 0, hn => step T0 T1 h m c ⟨0, hn⟩ (k0_pay2, k0_pay1 k0_pay2)
  | n + 1, hn => step T0 T1 h m c ⟨n + 1, hn⟩ (traj c n (Nat.lt_of_succ_lt hn))

/-- What stood before a point. -/
def prev (c : Dev nD) (n : ℕ) (hn : n ≤ (cf (F := F) T0 T1 h).N) : Vec F S512x2048 .f32 × Vec F S512x2048 .bf16 :=
  if hz : n = 0 then (k0_pay2, k0_pay1 k0_pay2) else traj T0 T1 h m c (n - 1) (by omega)

theorem traj_eq (c : Dev nD) (t : Fin (cf (F := F) T0 T1 h).N) :
    traj T0 T1 h m c t.val t.isLt = step T0 T1 h m c t (prev T0 T1 h m c t.val (Nat.le_of_lt t.isLt)) := by
  obtain ⟨n, hn⟩ := t
  cases n <;> rfl

/-- The invariant before a point: the kept tokens from the second point on, and the body's halves of the tables. -/
def Phi (c : Dev nD) (t : Fin ((cf (F := F) T0 T1 h).N + 1)) : sProp 𝕄 :=
  iprop((∃ a, ⌜t.val ≠ 0 → a = (prev T0 T1 h m c t.val (Nat.lt_succ_iff.mp t.isLt)).2⌝ ∗ kept c a)
    ∗ (tabE.view.loc (c : Thread nD τ) ↦{fullShare.right} (T0 : S104.Idx → Elt F .i32))
    ∗ (tabN.view.loc (c : Thread nD τ) ↦{fullShare.right} (T1 : S1.Idx → Elt F .i32)))

/-- The proof data of the pipeline on a core. -/
def dats (_ : Fin 1) (c : Dev nD) : Dat τ (Elt F) Unit ℕ (UR sig nD τ) ℕ (cf (F := F) T0 T1 h) c where
  A w := m (((cf (F := F) T0 T1 h).win w).arr.view.loc (c : Thread nD τ))
  after w t := match w with
    | ⟨0, _⟩ => iblk T0 T1 h m c (0 : Fin 5) t
    | ⟨1, _⟩ => iblk T0 T1 h m c (1 : Fin 5) t
    | ⟨2, _⟩ => iblk T0 T1 h m c (2 : Fin 5) t
    | ⟨3, _⟩ => iblk T0 T1 h m c (3 : Fin 5) t
    | ⟨4, _⟩ => (traj T0 T1 h m c t.val t.isLt).1
  Φ t := Phi T0 T1 h m c t
  q _ := fullShare
  owed _ := 0

theorem after0 (c : Dev nD) (t : Fin (cf (F := F) T0 T1 h).N) : (dats T0 T1 h m 0 c).after (0 : Fin 5) t = iblk T0 T1 h m c (0 : Fin 5) t := rfl
theorem after1 (c : Dev nD) (t : Fin (cf (F := F) T0 T1 h).N) : (dats T0 T1 h m 0 c).after (1 : Fin 5) t = iblk T0 T1 h m c (1 : Fin 5) t := rfl
theorem after2 (c : Dev nD) (t : Fin (cf (F := F) T0 T1 h).N) : (dats T0 T1 h m 0 c).after (2 : Fin 5) t = iblk T0 T1 h m c (2 : Fin 5) t := rfl
theorem after3 (c : Dev nD) (t : Fin (cf (F := F) T0 T1 h).N) : (dats T0 T1 h m 0 c).after (3 : Fin 5) t = iblk T0 T1 h m c (3 : Fin 5) t := rfl
theorem after4 (c : Dev nD) (t : Fin (cf (F := F) T0 T1 h).N) : (dats T0 T1 h m 0 c).after (4 : Fin 5) t = (traj T0 T1 h m c t.val t.isLt).1 := rfl

/-- An input's buffer holds its block when the body runs, fetched there or not. -/
theorem before0 (c : Dev nD) (t : Fin (cf (F := F) T0 T1 h).N) (d) : (dats T0 T1 h m 0 c).before (0 : Fin 5) t d = iblk T0 T1 h m c (0 : Fin 5) t :=
  ((dats T0 T1 h m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cf (F := F) T0 T1 h).N) (d) : (dats T0 T1 h m 0 c).before (1 : Fin 5) t d = iblk T0 T1 h m c (1 : Fin 5) t :=
  ((dats T0 T1 h m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cf (F := F) T0 T1 h).N) (d) : (dats T0 T1 h m 0 c).before (2 : Fin 5) t d = iblk T0 T1 h m c (2 : Fin 5) t :=
  ((dats T0 T1 h m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cf (F := F) T0 T1 h).N) (d) : (dats T0 T1 h m 0 c).before (3 : Fin 5) t d = iblk T0 T1 h m c (3 : Fin 5) t :=
  ((dats T0 T1 h m 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's contents carry through the points that leave it alone. -/
theorem carry4 (c : Dev nD) (t : Fin (cf (F := F) T0 T1 h).N) (ht : t.val ≠ 0)
    (hi : (cf (F := F) T0 T1 h).idle (4 : Fin 5) ((cf (F := F) T0 T1 h).grid.coords t) = true) :
    (dats T0 T1 h m 0 c).after (4 : Fin 5) t = (dats T0 T1 h m 0 c).after (4 : Fin 5) ⟨t.val - 1, by omega⟩ := by
  rw [idle4, decide_eq_true_eq] at hi
  rw [after4, after4, traj_eq]
  unfold step prev
  rw [if_neg hi.1, if_neg hi.2, dif_neg ht]

/-- The output's buffer, when the body runs at `t`: anything at a group's first tile, else what the point before left. -/
theorem before4 (c : Dev nD) (t : Fin (cf (F := F) T0 T1 h).N) (d) :
    (dats T0 T1 h m 0 c).before (4 : Fin 5) t d = if t.val % 7 = 0 then d else (prev T0 T1 h m c t.val (Nat.le_of_lt t.isLt)).1 := by
  rw [(dats T0 T1 h m 0 c).before_out_traj (4 : Fin 5) rfl (fun _ _ => rfl) (fun t ht hi _ => carry4 T0 T1 h m c t ht hi) t.val t rfl d,
    fresh4 T0 T1 h _ (Nat.le_of_lt t.isLt)]
  by_cases hf : t.val % 7 = 0
  · simp only [hf, decide_true, ↓reduceIte]
  · have h0 : t.val ≠ 0 := fun h0 => hf (by rw [h0])
    simp only [hf, decide_false, Bool.false_eq_true, ↓reduceIte, after4]
    unfold prev
    rw [dif_neg h0]

/-- Each window's current staging buffer at a point. -/
abbrev st0 (t : Fin (cf (F := F) T0 T1 h).N) : Memref sig .tc .vmem S512x2048 .f32 := spec0_0.stage ((cf (F := F) T0 T1 h).slots t (0 : Fin 5))
abbrev st1 (t : Fin (cf (F := F) T0 T1 h).N) : Memref sig .tc .vmem S1x2048x1024 .bf16 := spec0_1.stage ((cf (F := F) T0 T1 h).slots t (1 : Fin 5))
abbrev st2 (t : Fin (cf (F := F) T0 T1 h).N) : Memref sig .tc .vmem S1x2048x1024 .bf16 := spec0_2.stage ((cf (F := F) T0 T1 h).slots t (2 : Fin 5))
abbrev st3 (t : Fin (cf (F := F) T0 T1 h).N) : Memref sig .tc .vmem S1x1024x2048 .bf16 := spec0_3.stage ((cf (F := F) T0 T1 h).slots t (3 : Fin 5))
abbrev st4 (t : Fin (cf (F := F) T0 T1 h).N) : Memref sig .tc .vmem S512x2048 .f32 := spec0_4.stage ((cf (F := F) T0 T1 h).slots t (4 : Fin 5))

/-- The body at a point, as the pipeline calls it. -/
abbrev bodyAt (t : Fin (cf (F := F) T0 T1 h).N) : Prog (TpuEff nD τ sig (Elt F) Λ₀ .tc) PUnit :=
  body (F := F) (grid0.coords t) (st0 T0 T1 h t) (hstage0_0 (((cf (F := F) T0 T1 h).slots t (0 : Fin 5)).cast nbuf0_0))
    (st1 T0 T1 h t) (hstage0_1 (((cf (F := F) T0 T1 h).slots t (1 : Fin 5)).cast nbuf0_1))
    (st2 T0 T1 h t) (hstage0_2 (((cf (F := F) T0 T1 h).slots t (2 : Fin 5)).cast nbuf0_2))
    (st3 T0 T1 h t) (hstage0_3 (((cf (F := F) T0 T1 h).slots t (3 : Fin 5)).cast nbuf0_3))
    (st4 T0 T1 h t) (hstage0_4 (((cf (F := F) T0 T1 h).slots t (4 : Fin 5)).cast nbuf0_4))

/-- What a window's buffer holds after a point: the output's is as it was found where the body leaves it alone and it isn't written back. -/
theorem post4 (c : Dev nD) (t : Fin (cf (F := F) T0 T1 h).N) :
    (owns (c : Thread nD τ) (st4 T0 T1 h t) fullShare (traj T0 T1 h m c t.val t.isLt).1 : sProp 𝕄)
      ⊢ (match (cf (F := F) T0 T1 h).idle (4 : Fin 5) ((cf (F := F) T0 T1 h).grid.coords t) with
          | true =>
            match ((cf (F := F) T0 T1 h).win (4 : Fin 5)).flush t with
            | false => iprop(∃ d, owns (c : Thread nD τ) (((cf (F := F) T0 T1 h).win (4 : Fin 5)).stage ((cf (F := F) T0 T1 h).slots t (4 : Fin 5))) fullShare ((dats T0 T1 h m 0 c).before (4 : Fin 5) t d))
            | true => owns (c : Thread nD τ) (((cf (F := F) T0 T1 h).win (4 : Fin 5)).stage ((cf (F := F) T0 T1 h).slots t (4 : Fin 5))) fullShare ((dats T0 T1 h m 0 c).after (4 : Fin 5) t)
          | false => owns (c : Thread nD τ) (((cf (F := F) T0 T1 h).win (4 : Fin 5)).stage ((cf (F := F) T0 T1 h).slots t (4 : Fin 5))) fullShare ((dats T0 T1 h m 0 c).after (4 : Fin 5) t)) := by
  cases hi : (cf (F := F) T0 T1 h).idle (4 : Fin 5) ((cf (F := F) T0 T1 h).grid.coords t)
  · exact .rfl
  · cases hf : ((cf (F := F) T0 T1 h).win (4 : Fin 5)).flush t
    · have hi' := hi
      rw [idle4, decide_eq_true_eq] at hi'
      have e : ∀ d, (dats T0 T1 h m 0 c).before (4 : Fin 5) t d = (traj T0 T1 h m c t.val t.isLt).1 := fun d => by
        rw [before4, if_neg hi'.2, traj_eq]
        unfold step
        rw [if_neg hi'.1, if_neg hi'.2]
      simp only [e]
      iintro H
      iexists k0_pay2
      iexact H
    · exact .rfl

/-- The invariant and the windows' buffers after a point. -/
def Post (c : Dev nD) (t : Fin (cf (F := F) T0 T1 h).N) : PUnit → sProp 𝕄 := fun _ =>
  iprop((dats T0 T1 h m 0 c).Φ t.succ ∗ (dats T0 T1 h m 0 c).owesAt () t.succ
    ∗ bigSep Finset.univ fun w : Fin (cf (F := F) T0 T1 h).W =>
        match (cf (F := F) T0 T1 h).idle w ((cf (F := F) T0 T1 h).grid.coords t) with
        | true =>
          match ((cf (F := F) T0 T1 h).win w).flush t with
          | false => iprop(∃ d, owns (c : Thread nD τ) (((cf (F := F) T0 T1 h).win w).stage ((cf (F := F) T0 T1 h).slots t w)) fullShare ((dats T0 T1 h m 0 c).before w t d))
          | true => owns (c : Thread nD τ) (((cf (F := F) T0 T1 h).win w).stage ((cf (F := F) T0 T1 h).slots t w)) fullShare ((dats T0 T1 h m 0 c).after w t)
        | false => owns (c : Thread nD τ) (((cf (F := F) T0 T1 h).win w).stage ((cf (F := F) T0 T1 h).slots t w)) fullShare ((dats T0 T1 h m 0 c).after w t))

/-- What the body reads at a point. -/
abbrev heldAt (c : Dev nD) (t : Fin (cf (F := F) T0 T1 h).N) : sProp 𝕄 :=
  held c (st0 T0 T1 h t) (st1 T0 T1 h t) (st2 T0 T1 h t) (st3 T0 T1 h t) (T0 : S104.Idx → Elt F .i32) (T1 : S1.Idx → Elt F .i32)
    (bx T0 T1 h m c t) (bw1 T0 T1 h m c t) (bw3 T0 T1 h m c t) (bw2 T0 T1 h m c t)

theorem post_intro (c : Dev nD) (t : Fin (cf (F := F) T0 T1 h).N) (o : Vec F S512x2048 .f32) (a : Vec F S512x2048 .bf16)
    (ho : o = (traj T0 T1 h m c t.val t.isLt).1) (ha : a = (traj T0 T1 h m c t.val t.isLt).2) :
    iprop(heldAt T0 T1 h m c t ∗ owns (c : Thread nD τ) (st4 T0 T1 h t) fullShare o ∗ kept c a ∗ (dats T0 T1 h m 0 c).owesAt () t.castSucc)
      ⊢ Post T0 T1 h m c t ⟨⟩ := by
  subst ho ha
  unfold Post heldAt held
  rw [bigSep_W0]
  rw [show (dats T0 T1 h m 0 c).Φ t.succ = Phi T0 T1 h m c t.succ from rfl]
  unfold Phi
  iintro ⟨⟨H0, H1, H2, H3, HT0, HT1⟩, H4, HS, Ho⟩
  isplitl [HS HT0 HT1]
  · isplitl [HS]
    · iexists _; isplitr; swap
      · iexact HS
      · ipureintro; intro _; rfl
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iapply (post4 T0 T1 h m c t)
  iexact H4

theorem idle_exit (c : Dev nD) (t : Fin (cf (F := F) T0 T1 h).N) (hi : ¬ t.val / 7 < used T1) (h0 : t.val % 7 ≠ 0) :
    (prev T0 T1 h m c t.val (Nat.le_of_lt t.isLt)) = traj T0 T1 h m c t.val t.isLt := by
  rw [traj_eq]; unfold step; rw [if_neg hi, if_neg h0]

set_option maxHeartbeats 4000000 in
/-- The body at a point runs from the invariant and the windows' buffers to the same after it. -/
theorem sound (c : Dev nD) (t : Fin (cf (F := F) T0 T1 h).N) :
    iprop((dats T0 T1 h m 0 c).Φ t.castSucc ∗ (dats T0 T1 h m 0 c).owesAt () t.castSucc
        ∗ (∃ d, owns (c : Thread nD τ) (st0 T0 T1 h t) fullShare ((dats T0 T1 h m 0 c).before (0 : Fin 5) t d))
        ∗ (∃ d, owns (c : Thread nD τ) (st1 T0 T1 h t) fullShare ((dats T0 T1 h m 0 c).before (1 : Fin 5) t d))
        ∗ (∃ d, owns (c : Thread nD τ) (st2 T0 T1 h t) fullShare ((dats T0 T1 h m 0 c).before (2 : Fin 5) t d))
        ∗ (∃ d, owns (c : Thread nD τ) (st3 T0 T1 h t) fullShare ((dats T0 T1 h m 0 c).before (3 : Fin 5) t d))
        ∗ (∃ d, owns (c : Thread nD τ) (st4 T0 T1 h t) fullShare ((dats T0 T1 h m 0 c).before (4 : Fin 5) t d)))
      ⊢ wp frame (wpE (defs₀ (F := F)) Variants.none c none) Set.univ (bodyAt T0 T1 h t) (Post T0 T1 h m c t) := by
  have hn := h.le (ix1 (0 : Fin 1))
  have hpos := h.pos (ix1 (0 : Fin 1))
  have hu : 1 ≤ used T1 := hpos
  have e1 := cond1_iff (grid0.coords t) (T1 (ix1 (0 : Fin 1))) hn
  have e2 := cond2_iff (grid0.coords t)
  have e3 := cond3_iff (grid0.coords t) (T1 (ix1 (0 : Fin 1))) hn
  have en : nv (F := F) (T1 : S1.Idx → Elt F .i32) = T1 (ix1 (0 : Fin 1)) := nv_eq T1
  rw [crd0 t, ← en] at e1 e3
  rw [crd1 t] at e2 e3
  simp only [before0, before1, before2, before3, before4]
  rw [show (dats T0 T1 h m 0 c).Φ t.castSucc = Phi T0 T1 h m c t.castSucc from rfl]
  unfold Phi
  iintro ⟨⟨⟨%a, %ha, HS⟩, HT0, HT1⟩, Ho, ⟨%d0, H0⟩, ⟨%d1, H1⟩, ⟨%d2, H2⟩, ⟨%d3, H3⟩, ⟨%d4, H4⟩⟩
  have hu' : (T1 (ix1 (0 : Fin 1))).toNat = used T1 := rfl
  rw [en, hu'] at e1 e3
  by_cases hq : t.val / 7 < used T1 <;> by_cases hj : t.val % 7 = 0
  · iapply (run_first c (grid0.coords t) (st0 T0 T1 h t) _ (st1 T0 T1 h t) _ (st2 T0 T1 h t) _ (st3 T0 T1 h t) _ (st4 T0 T1 h t) _ T0 T1
      (bx T0 T1 h m c t) (bw1 T0 T1 h m c t) (bw3 T0 T1 h m c t) (bw2 T0 T1 h m c t) (by rw [en]; exact e1.2 hq) (e2.2 hj)
      (by rw [en, e3]; exact fun hh => hh.1 hq) a)
    isplitl [H0 H1 H2 H3 HT0 HT1]
    · unfold held
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS]; · iexact HS
    iintro ⟨HH, H4, HS⟩
    iapply (post_intro T0 T1 h m c t (k0_pay3 (k0_pay1 (bx T0 T1 h m c t)) (bw1 T0 T1 h m c t) (bw3 T0 T1 h m c t) k0_pay2 (bw2 T0 T1 h m c t)) (k0_pay1 (bx T0 T1 h m c t))
      (by rw [traj_eq]; unfold step; rw [if_pos hq, if_pos hj]) (by rw [traj_eq]; unfold step; rw [if_pos hq, if_pos hj]))
    isplitl [HH]; · iexact HH
    isplitl [H4]; · iexact H4
    isplitl [HS]; · iexact HS
    iexact Ho
  · have ht : t.val ≠ 0 := fun h0 => hj (by rw [h0])
    iapply (run_next c (grid0.coords t) (st0 T0 T1 h t) _ (st1 T0 T1 h t) _ (st2 T0 T1 h t) _ (st3 T0 T1 h t) _ (st4 T0 T1 h t) _ T0 T1
      (bx T0 T1 h m c t) (bw1 T0 T1 h m c t) (bw3 T0 T1 h m c t) (bw2 T0 T1 h m c t) (by rw [en]; exact e1.2 hq) (fun hh => hj (e2.1 hh))
      (by rw [en, e3]; exact fun hh => hh.1 hq) a (prev T0 T1 h m c t.val (Nat.le_of_lt t.isLt)).1)
    isplitl [H0 H1 H2 H3 HT0 HT1]
    · unfold held
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    rw [if_neg hj]
    isplitl [H4]; · iexact H4
    isplitl [HS]; · iexact HS
    iintro ⟨HH, H4, HS⟩
    iapply (post_intro T0 T1 h m c t (k0_pay3 a (bw1 T0 T1 h m c t) (bw3 T0 T1 h m c t) (prev T0 T1 h m c t.val (Nat.le_of_lt t.isLt)).1 (bw2 T0 T1 h m c t)) a
      (by rw [traj_eq, ha ht]; unfold step; rw [if_pos hq, if_neg hj]; rfl)
      (by rw [traj_eq, ha ht]; unfold step; rw [if_pos hq, if_neg hj]; rfl))
    isplitl [HH]; · iexact HH
    isplitl [H4]; · iexact H4
    isplitl [HS]; · iexact HS
    iexact Ho
  · have ht : t.val ≠ 0 := fun h0 => hq (by rw [h0]; omega)
    iapply (run_zero c (grid0.coords t) (st0 T0 T1 h t) _ (st1 T0 T1 h t) _ (st2 T0 T1 h t) _ (st3 T0 T1 h t) _ (st4 T0 T1 h t) _ T0 T1
      (bx T0 T1 h m c t) (bw1 T0 T1 h m c t) (bw3 T0 T1 h m c t) (bw2 T0 T1 h m c t) (by rw [en]; exact fun hh => hq (e1.1 hh))
      (by rw [en]; exact e3.2 ⟨hq, hj⟩) a)
    isplitl [H0 H1 H2 H3 HT0 HT1]
    · unfold held
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS]; · iexact HS
    iintro ⟨HH, H4, HS⟩
    iapply (post_intro T0 T1 h m c t k0_pay4 a (by rw [traj_eq]; unfold step; rw [if_neg hq, if_pos hj])
      (by rw [traj_eq, ha ht]; unfold step; rw [if_neg hq, if_pos hj]; rfl))
    isplitl [HH]; · iexact HH
    isplitl [H4]; · iexact H4
    isplitl [HS]; · iexact HS
    iexact Ho
  · have ht : t.val ≠ 0 := fun h0 => hj (by rw [h0])
    iapply (run_idle c (grid0.coords t) (st0 T0 T1 h t) _ (st1 T0 T1 h t) _ (st2 T0 T1 h t) _ (st3 T0 T1 h t) _ (st4 T0 T1 h t) _ T1
      (by rw [en]; exact fun hh => hq (e1.1 hh)) (by rw [en]; exact fun hh => hj (e3.1 hh).2))
    isplitl [HT1]; · iexact HT1
    iintro HT1
    rw [if_neg hj]
    iapply (post_intro T0 T1 h m c t (prev T0 T1 h m c t.val (Nat.le_of_lt t.isLt)).1 (prev T0 T1 h m c t.val (Nat.le_of_lt t.isLt)).2 (congrArg Prod.fst (idle_exit T0 T1 h m c t hq hj)) (congrArg Prod.snd (idle_exit T0 T1 h m c t hq hj)))
    isplitl [H0 H1 H2 H3 HT0 HT1]
    · unfold heldAt held
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HS]; · rw [show a = _ from ha ht]; iexact HS
    iexact Ho

/-- The library's body obligation, at every point. -/
theorem body_obligation (c : Dev nD) : BodyObligation (dats T0 T1 h m 0 c) (defs₀ (F := F)) Variants.none () Set.univ := fun t => by
  rw [bigSep_W0]
  exact sound T0 T1 h m c t

end Cert.Kernel2Ideal.Moe

end
-- ==== Proof.MoeWords.lean ====
/- THE TABLES' ARITHMETIC, no program in it: each expert's rows fill whole groups of 512, an expert's groups end where the groups of all up to it do,
   and a group's expert is the number of experts whose groups end at or before it. -/
module

public import Idealize.ShloMosaic.Lib.Routing.OpsSearch
public import Idealize.ShloMosaic.Lib.Routing.OpsPair

@[expose] public section

noncomputable section

namespace Cert.Moe

open Idealize.ShloMosaic Idealize.ShloMosaic.ValueIdx Idealize.ShloMosaic.Routing

variable (x : IVec (shape1 8) 32)

/-- An expert's rows, -/
def cn (e : ℕ) : ℕ := if h : e < 8 then (x (ix1 ⟨e, h⟩)).toNat else 0

/-- its groups, -/
def nt (e : ℕ) : ℕ := (cn x e + 511) / 512

/-- where they end, -/
def en (e : ℕ) : ℕ := ((List.range (e + 1)).map (nt x)).sum

/-- and the expert of a group, eight past the last. -/
def ce (i : ℕ) : ℕ := Nat.count (fun e => en x e ≤ i) 8

/-- No expert has more rows than there are, and all together have at least one and no more than there are. -/
structure Counted : Prop where
  le : ∀ e, cn x e ≤ 49152
  pos : 1 ≤ ((List.range 8).map (cn x)).sum
  sum_le : ((List.range 8).map (cn x)).sum ≤ 49152

theorem en_succ (e : ℕ) : en x (e + 1) = en x e + nt x (e + 1) := by
  unfold en
  rw [List.range_succ, List.map_append, List.sum_append]
  simp

theorem en_mono {a b : ℕ} (h : a ≤ b) : en x a ≤ en x b := by
  induction b, h using Nat.le_induction with
  | base => exact le_refl _
  | succ b _ ih => rw [en_succ]; omega

theorem range8 (f : ℕ → ℕ) : ((List.range 8).map f).sum = f 0 + f 1 + f 2 + f 3 + f 4 + f 5 + f 6 + f 7 := by
  simp only [List.range_succ, List.range_zero, List.map_append, List.sum_append, List.map_cons, List.map_nil, List.sum_cons, List.sum_nil, List.nil_append,
    add_zero, zero_add]

variable {x}

/-- The groups in use are no more than there are, -/
theorem last_le (h : Counted x) : en x 7 ≤ 104 := by
  have h1 := h.sum_le
  unfold en nt
  rw [range8] at h1 ⊢
  omega

/-- and at least one. -/
theorem last_pos (h : Counted x) : 1 ≤ en x 7 := by
  have h1 := h.pos
  unfold en nt
  rw [range8] at h1 ⊢
  omega

theorem en_le (h : Counted x) (e : ℕ) (he : e < 8) : en x e ≤ 104 := (en_mono x (by omega)).trans (last_le h)

/-- A group in use has one of the eight experts. -/
theorem ce_lt {i : ℕ} (hi : i < en x 7) : ce x i < 8 := by
  unfold ce
  rw [Nat.count_succ, if_neg (by omega)]
  have := Nat.count_le (p := fun e => en x e ≤ i) (n := 7)
  omega

/-- One not in use has none. -/
theorem ce_rest {i : ℕ} (hi : en x 7 ≤ i) : ce x i = 8 := by
  unfold ce
  exact Nat.count_iff_forall.2 fun {e} he => (en_mono x (by omega : e ≤ 7)).trans hi

theorem ce_le (i : ℕ) : ce x i ≤ 8 := Nat.count_le _

theorem lt_iff (i : ℕ) : ce x i < 8 ↔ i < en x 7 :=
  ⟨fun h => by by_contra hn; rw [ce_rest (by omega)] at h; omega, ce_lt⟩

/-- A row's expert is its group's. -/
theorem ce_row (n : ℕ) : Nat.count (fun e => 512 * en x e ≤ n) 8 = ce x (n / 512) :=
  count_congr_of_lt _ fun e _ => by rw [Nat.le_div_iff_mul_le (by norm_num), Nat.mul_comm]

theorem cn_word (e : Fin 8) : x (ix1 e) = BitVec.ofNat 32 (cn x e.val) := by
  unfold cn
  rw [dif_pos e.isLt, BitVec.ofNat_toNat, BitVec.setWidth_eq]

/-- The words of the groups, as the programs divide, -/
theorem tiles_word (h : Counted x) (hb : shape0.BroadcastsInDim (shape1 8) (![] : Fin 0 → Fin (shape1 8).rank)) (v : IVec (shape1 8) 32)
    (hv : ∀ e : Fin 8, v (ix1 e) = BitVec.ofNat 32 (cn x e.val + 511)) (e : Fin 8) :
    pyDiv hb v (constantI shape0 32 512#32) (ix1 e) = BitVec.ofNat 32 (nt x e.val) :=
  pyDiv_ap hb v _ (ix1 e) (hv e) rfl (by have := h.le e.val; omega) (by norm_num) (by norm_num)

/-- and of their ends. -/
theorem ends_word (h : Counted x) (hb : shape0.BroadcastsInDim (shape1 8) (![] : Fin 0 → Fin (shape1 8).rank)) (v : IVec (shape1 8) 32)
    (hv : ∀ e : Fin 8, v (ix1 e) = BitVec.ofNat 32 (cn x e.val + 511)) (init : IVec shape0 32) (hi : init ix0 = 0#32)
    (hw : (shape1 8).ReduceWindows (![8] : Fin 1 → Nat) ![1] ![7] ![0] (shape1 8)) (hu : 0 < shape0.numel) (e : Fin 8) :
    Host.reduceWindow IntOp.addi ![8] ![1] ![7] ![0] (pyDiv hb v (constantI shape0 32 512#32)) init hw hu (ix1 e) = BitVec.ofNat 32 (en x e.val) :=
  cumsum1 (Nm1 := 7) rfl _ (nt x) (tiles_word h hb v hv) init hi hw hu e

/-- The signed comparison of two small numbers' words. -/
theorem sge_word {a b : ℕ} (ha : a < 2 ^ 31) (hb : b < 2 ^ 31) :
    IntOp.cmpi .sge (BitVec.ofNat 32 a) (BitVec.ofNat 32 b) = 1#1 ↔ b ≤ a := by
  show BitVec.ofBool ((BitVec.ofNat 32 b).sle (BitVec.ofNat 32 a)) = 1#1 ↔ _
  rw [sle_ofNat32 hb ha]
  by_cases h : b ≤ a <;> simp [h]

theorem slt_word {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ _
  rw [slt_ofNat32 ha hb]
  by_cases h : a < b <;> simp [h]

end Cert.Moe

end
-- ==== Proof.MoeTables.lean ====
/- THE TABLES THE HOST CODE PREPARES from the experts' counts: the number of groups in use, and each group's expert. -/
module

public import proofs.«01_k».proof.Proof.Gen.Kernel2Ideal
public import proofs.«01_k».proof.Proof.MoeWords
public import Idealize.ShloMosaic.Lib.Pointwise
public import Idealize.ShloMosaic.Lib.WordArith

@[expose] public section

set_option backward.proofsInPublic true

noncomputable section

namespace Cert.Kernel2Ideal.Tab

open Cert.Kernel2Ideal Cert.Kernel2Ideal.Gen Cert.Moe
open Idealize.ShloMosaic Idealize.ShloMosaic.Routing

variable (x : IVec S8 32)

/-- A number in every place. -/
abbrev all (s : Shape) (hb : S_.BroadcastsInDim s (![] : Fin 0 → Fin s.rank)) (w : BitVec 32) : IVec s 32 := broadcastInDim s ![] hb (constantI S_ 32 w)

/-- The counts, made ready to be divided by 512 upwards, -/
def tabR : IVec S8 32 := subi (addi x (all S8 bcast_S_S8 512#32)) (all S8 bcast_S_S8 1#32)

/-- the ends of the experts' groups, -/
def tabEnds : IVec S8 32 :=
  Host.reduceWindow IntOp.addi ![8] ![1] ![7] ![0] (pyDiv bcast_S_S8 (tabR x) (constantI S_ 32 512#32)) (all S_ bcast_S_S_ 0#32) reduceWindows_S8_S8_w8s1p7_0 h_S_

section
variable (t : IVec S8 32)

/-- from them the groups in use, -/
def useN : IVec S1 32 := extractStridedSlice S1 ![7] t slices_S8_S1_7

/-- each group's expert, kept below eight, -/
def useC : IVec S104 32 :=
  minsi (Host.reduce IntOp.addi (extui 32 (cmpi .sge
      (broadcastInDim S104x8 ![0, 1] bcast_S104x1_S104x8_0_1 (broadcastInDim S104x1 ![0] bcast_S104_S104x1_0 (iotaInDim S104 32 0)))
      (broadcastInDim S104x8 ![0, 1] bcast_S1x8_S104x8_0_1 (broadcastInDim S1x8 ![1] bcast_S8_S1x8_1 t))) natLt_1_32)
    (constantI S_ 32 0#32) reducesTo_S104x8_S104_d1 h_S_) (all S104 bcast_S_S104 7#32)

/-- the last group in use, -/
def useI : IVec S_ 32 := maxsi (subi (shapeCast S_ (useN t) shapeCasts_S1_S_) (constantI S_ 32 1#32)) (constantI S_ 32 0#32)

/-- its place, counted from the end if below zero, -/
def useP : IVec S_ 32 := select (cmpi .slt (useI t) (constantI S_ 32 0#32)) (addi (useI t) (constantI S_ 32 104#32)) (useI t)

/-- its expert in every place, -/
def useW : IVec S104 32 :=
  broadcastInDim S104 ![] bcast_S_S104 (shapeCast S_
    (Host.dynamicSlice S1 (useC t) (fun _ => (useP t (Shape.Idx.first h_S_)).toInt) sliceFits_S104_S1) shapeCasts_S1_S_)

/-- the mask of the groups in use, -/
def useM : IVec S104 1 := cmpi .slt (iotaInDim S104 32 0) (broadcastInDim S104 ![] bcast_S_S104 (shapeCast S_ (useN t) shapeCasts_S1_S_))

end

/-- and the tables: the groups in use, -/
abbrev tabN : IVec S1 32 := useN (tabEnds x)

abbrev tabC : IVec S104 32 := useC (tabEnds x)
abbrev tabW : IVec S104 32 := useW (tabEnds x)
abbrev tabM : IVec S104 1 := useM (tabEnds x)

/-- and the experts, past the groups in use the last one's. -/
def tabE : IVec S104 32 := select (tabM x) (tabC x) (tabW x)

theorem tabW_at (j : S104.Idx) : ∃ k, tabW x j = tabC x k := ⟨_, rfl⟩

theorem tabE_if (j : S104.Idx) : tabE x j = if tabM x j = 1#1 then tabC x j else tabW x j := rfl

variable {x} (h : Counted x)
include h

theorem tabR_at (e : Fin 8) : tabR x (ix1 e) = BitVec.ofNat 32 (cn x e.val + 511) := by
  refine (congrArg (fun w : BitVec 32 => w + 512#32 - 1#32) (cn_word (x := x) e)).trans ?_
  apply BitVec.eq_of_toNat_eq
  have := h.le e.val
  simp only [BitVec.toNat_sub, BitVec.toNat_add, BitVec.toNat_ofNat]
  omega

theorem tabEnds_at (e : Fin 8) : tabEnds x (ix1 e) = BitVec.ofNat 32 (en x e.val) :=
  ends_word h bcast_S_S8 (tabR x) (tabR_at h) _ rfl reduceWindows_S8_S8_w8s1p7_0 h_S_ e

omit h in
theorem last_at (t : IVec S8 32) : extractStridedSlice S1 ![7] t slices_S8_S1_7 (ix1 (0 : Fin 1)) = t (ix1 ⟨7, by decide⟩) :=
  congrArg t (funext fun a => match a with | ⟨0, _⟩ => rfl)

/-- The groups in use. -/
theorem tabN_at (j : S1.Idx) : tabN x j = BitVec.ofNat 32 (en x 7) := by
  have hj : j = ix1 (0 : Fin 1) := funext fun a => match a with | ⟨0, _⟩ => Subsingleton.elim (α := Fin 1) _ _
  rw [hj]
  exact (last_at (tabEnds x)).trans (tabEnds_at h ⟨7, by decide⟩)

theorem count_at (i : Fin 104) : Host.reduce IntOp.addi (extui 32 (cmpi .sge
      (broadcastInDim S104x8 ![0, 1] bcast_S104x1_S104x8_0_1 (broadcastInDim S104x1 ![0] bcast_S104_S104x1_0 (iotaInDim S104 32 0)))
      (broadcastInDim S104x8 ![0, 1] bcast_S1x8_S104x8_0_1 (broadcastInDim S1x8 ![1] bcast_S8_S1x8_1 (tabEnds x)))) natLt_1_32)
    (constantI S_ 32 0#32) reducesTo_S104x8_S104_d1 h_S_ (ix1 i) = BitVec.ofNat 32 (ce x i.val) := by
  refine reduce_count (n := 104) (m := 8) (by norm_num) _ natLt_1_32 reducesTo_S104x8_S104_d1 h_S_ i (fun e => en x e ≤ i.val) fun e => ?_
  have e0 : (broadcastInDim S104x8 ![0, 1] bcast_S1x8_S104x8_0_1 (broadcastInDim S1x8 ![1] bcast_S8_S1x8_1 (tabEnds x))) (ix2 i e) = tabEnds x (ix1 e) := by
    pointwise
  have e1 : (broadcastInDim S104x8 ![0, 1] bcast_S104x1_S104x8_0_1 (broadcastInDim S104x1 ![0] bcast_S104_S104x1_0 (iotaInDim S104 32 0))) (ix2 i e)
      = BitVec.ofNat 32 i.val := by
    pointwise
  have e2 : ValueIdx.ix2 i e = ix2 i e := rfl
  show IntOp.cmpi .sge _ _ = 1#1 ↔ _
  rw [e2, e0, e1, tabEnds_at h e]
  have := en_le h e.val e.isLt
  have := i.isLt
  exact sge_word (by omega) (by omega)

theorem tabC_at (i : Fin 104) : tabC x (ix1 i) = BitVec.ofNat 32 (min (ce x i.val) 7) := by
  refine (congrArg (fun w => IntOp.minsi w 7#32) (count_at h i)).trans ?_
  have hc := ce_le (x := x) i.val
  apply BitVec.eq_of_toNat_eq
  rw [WordArith.toNat_minsi_of_lt]
  all_goals simp only [BitVec.toNat_ofNat]
  all_goals omega

theorem tabC_lt (j : S104.Idx) : (tabC x j).toNat < 8 := by
  have hj : j = ix1 (j 0) := funext fun a => match a with | ⟨0, _⟩ => rfl
  rw [hj]
  refine (congrArg (fun w : BitVec 32 => w.toNat < 8) (tabC_at h (j 0))).mpr ?_
  show (BitVec.ofNat 32 _).toNat < 8
  rw [BitVec.toNat_ofNat]
  omega

/-- Every entry of the table is an expert, -/
theorem tabE_lt (j : S104.Idx) : (tabE x j).toNat < 8 := by
  rw [tabE_if]
  split
  · exact tabC_lt h _
  · obtain ⟨k, hk⟩ := tabW_at x j
    rw [hk]
    exact tabC_lt h k

omit h in
theorem spread_at (t : IVec S1 32) (j : S104.Idx) : ∃ k, broadcastInDim S104 ![] bcast_S_S104 (shapeCast S_ t shapeCasts_S1_S_) j = t k := ⟨_, rfl⟩

theorem tabM_at (i : Fin 104) (hi : i.val < en x 7) : tabM x (ix1 i) = 1#1 := by
  have hl := last_le h
  obtain ⟨k, hk⟩ := spread_at (tabN x) (ix1 i)
  refine (congrArg (IntOp.cmpi .slt (BitVec.ofNat 32 i.val)) (hk.trans (tabN_at h k))).trans ?_
  exact (slt_word (by omega) (by omega)).2 hi

/-- of a group in use its own. -/
theorem tabE_at (i : Fin 104) (hi : i.val < en x 7) : tabE x (ix1 i) = BitVec.ofNat 32 (ce x i.val) := by
  have := ce_lt hi
  rw [tabE_if, if_pos (tabM_at h i hi), tabC_at h, Nat.min_eq_left (by omega)]

end Cert.Kernel2Ideal.Tab

end
-- ==== Proof.MoeHost.lean ====
/- THE HOST CODE BEFORE THE CALL: it leaves the arguments as they were and the two tables as Proof/MoeTables.lean reads them. -/
module

public import proofs.«01_k».proof.Proof.Gen.Kernel2Ideal.Launch
public import proofs.«01_k».proof.Proof.MoeTables
public import Idealize.ShloMosaic.Lib.StableHlo.Run

@[expose] public section

set_option maxRecDepth 16384
set_option backward.proofsInPublic true

noncomputable section

namespace Cert.Kernel2Ideal.Moe

open Cert.Kernel2Ideal Cert.Kernel2Ideal.Gen
open Idealize.ShloMosaic Idealize.ShloMosaic.TcCoe Idealize.SL.Sem

variable {F : FTy → Type} [FloatOps F]

/-- The host operations before the call. -/
abbrev hosts : List (List (HloOp τ sig (Elt F))) := [hostOps0, hostOps0_1, hostOps0_2, hostOps0_3, hostOps0_4]

variable (m : (ℓ : Loc nD τ sig) → Buf (Elt F) ℓ)

/-- The memory after them. -/
def entered : (ℓ : Loc nD τ sig) → Buf (Elt F) ℓ := fun ℓ => StableHlo.after (hosts (F := F)).flatten (fun b => m (ℓ.1, b)) ℓ.2

theorem hosts_fresh : (hosts (F := F)).Forall fun ops => ops.Forall fun op => op.fresh = ∅ := by
  simp only [List.Forall]; repeat' constructor

theorem hosts_sub : (hosts (F := F)).Forall fun ops => ops.Forall fun op => op.bufs ⊆ StableHlo.tcRefs τ sig :=
  ⟨hostOps0_sub, hostOps0_1_sub, hostOps0_2_sub, hostOps0_3_sub, hostOps0_4_sub⟩

/-- A buffer no host operation writes is as it was. -/
theorem entered_of (b : Ref sig .tc) (hb : ∀ op ∈ (hosts (F := F)).flatten, Proc.devRef .tc b ∉ op.writes) (c : Dev nD) :
    entered m ((c.tc : Thread nD τ).loc b) = m ((c.tc : Thread nD τ).loc b) :=
  StableHlo.after_of_forall_not_mem (b := Proc.devRef .tc b) _ _ hb

theorem entered_arg0 (c : Dev nD) : entered m ((c.tc : Thread nD τ).loc main_arg0) = m ((c.tc : Thread nD τ).loc main_arg0) :=
  entered_of m main_arg0 (List.forall_iff_forall_mem.mp (by
    simp only [hosts, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, StableHlo.unaryIndexed_writes,
      Finset.mem_singleton]
    repeat' apply And.intro
    all_goals exact StableHlo.devRef_ne_of_ne (by decide))) c

theorem entered_arg1 (c : Dev nD) : entered m ((c.tc : Thread nD τ).loc main_arg1) = m ((c.tc : Thread nD τ).loc main_arg1) :=
  entered_of m main_arg1 (List.forall_iff_forall_mem.mp (by
    simp only [hosts, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, StableHlo.unaryIndexed_writes,
      Finset.mem_singleton]
    repeat' apply And.intro
    all_goals exact StableHlo.devRef_ne_of_ne (by decide))) c

theorem entered_arg2 (c : Dev nD) : entered m ((c.tc : Thread nD τ).loc main_arg2) = m ((c.tc : Thread nD τ).loc main_arg2) :=
  entered_of m main_arg2 (List.forall_iff_forall_mem.mp (by
    simp only [hosts, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, StableHlo.unaryIndexed_writes,
      Finset.mem_singleton]
    repeat' apply And.intro
    all_goals exact StableHlo.devRef_ne_of_ne (by decide))) c

theorem entered_arg3 (c : Dev nD) : entered m ((c.tc : Thread nD τ).loc main_arg3) = m ((c.tc : Thread nD τ).loc main_arg3) :=
  entered_of m main_arg3 (List.forall_iff_forall_mem.mp (by
    simp only [hosts, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, StableHlo.unaryIndexed_writes,
      Finset.mem_singleton]
    repeat' apply And.intro
    all_goals exact StableHlo.devRef_ne_of_ne (by decide))) c

theorem entered_arg4 (c : Dev nD) : entered m ((c.tc : Thread nD τ).loc main_arg4) = m ((c.tc : Thread nD τ).loc main_arg4) :=
  entered_of m main_arg4 (List.forall_iff_forall_mem.mp (by
    simp only [hosts, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, StableHlo.unaryIndexed_writes,
      Finset.mem_singleton]
    repeat' apply And.intro
    all_goals exact StableHlo.devRef_ne_of_ne (by decide))) c

set_option maxHeartbeats 2000000 in
/-- The groups in use. -/
theorem entered_n (c : Dev nD) : (entered m ((c.tc : Thread nD τ).loc main_v6) : S1.Idx → BitVec 32) = Tab.tabN (m ((c.tc : Thread nD τ).loc main_arg1)) := by
  show StableHlo.after (hosts (F := F)).flatten (fun b => m (c, b)) (Proc.devRef .tc main_v6) = _
  simp only [hosts, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf,
    cast_eq]
  after_results_simp
  unfold Tab.tabN Tab.tabEnds Tab.tabR Routing.pyDiv Tab.all
  rfl

/-- The host operations up to the ends of the experts' groups, and the rest. -/
abbrev hostsA : List (HloOp τ sig (Elt F)) := hostOps0 ++ (hostOps0_1 ++ hostOps0_2)
abbrev hostsB : List (HloOp τ sig (Elt F)) := hostOps0_3.take 27
abbrev hostsC : List (HloOp τ sig (Elt F)) := hostOps0_3.drop 27 ++ hostOps0_4

set_option maxHeartbeats 2000000 in
theorem endsA (W : Valuation τ sig (Elt F)) :
    (StableHlo.after (hostsA (F := F)) W (Proc.devRef .tc main_v5) : S8.Idx → BitVec 32) = Tab.tabEnds (W (Proc.devRef .tc main_arg1)) := by
  simp only [hostsA, hostOps0, hostOps0_1, hostOps0_2, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf,
    cast_eq]
  after_results_simp
  unfold Tab.tabEnds Tab.tabR Routing.pyDiv Tab.all
  rfl

theorem pick (M : IVec S104 1) (C : IVec S104 32) (f g : Fin 1 → ℤ) (e : f = g) :
    select M C (broadcastInDim S104 ![] bcast_S_S104 fun i => shapeCast S_ (Host.dynamicSlice S1 C f sliceFits_S104_S1) shapeCasts_S1_S_ i)
      = select M C (broadcastInDim S104 ![] bcast_S_S104 (shapeCast S_ (Host.dynamicSlice S1 C g sliceFits_S104_S1) shapeCasts_S1_S_)) := by
  subst e; rfl

set_option maxHeartbeats 2000000 in
theorem expertB (W : Valuation τ sig (Elt F)) :
    (StableHlo.after (hostsB (F := F)) W (Proc.devRef .tc main_v20) : S104.Idx → BitVec 1) = Tab.useM (W (Proc.devRef .tc main_v5))
      ∧ (StableHlo.after (hostsB (F := F)) W (Proc.devRef .tc main_v16) : S104.Idx → BitVec 32) = Tab.useC (W (Proc.devRef .tc main_v5))
      ∧ (StableHlo.after (hostsB (F := F)) W (Proc.devRef .tc main_v26) : S_.Idx → BitVec 32) = Tab.useP (W (Proc.devRef .tc main_v5)) := by
  simp only [hostsB, hostOps0_3, List.flatten_cons, List.flatten_nil, List.append_nil, List.cons_append,
    List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf,
    cast_eq]
  unfold Tab.useM Tab.useC Tab.useP Tab.useI Tab.useN
  refine ⟨?_, ?_, ?_⟩ <;> after_results_simp <;> rfl

set_option maxHeartbeats 2000000 in
theorem expertC (W : Valuation τ sig (Elt F)) :
    (StableHlo.after (hostsC (F := F)) W (Proc.devRef .tc main_v29) : S104.Idx → BitVec 32)
      = select (W (Proc.devRef .tc main_v20)) (W (Proc.devRef .tc main_v16)) (broadcastInDim S104 ![] bcast_S_S104 (shapeCast S_
          (Host.dynamicSlice S1 (W (Proc.devRef .tc main_v16)) (fun _ => ((W (Proc.devRef .tc main_v26) : S_.Idx → BitVec 32) (Shape.Idx.first h_S_)).toInt)
            sliceFits_S104_S1) shapeCasts_S1_S_)) := by
  simp only [hostsC, hostOps0_3, hostOps0_4, List.flatten_cons, List.flatten_nil, List.append_nil, List.cons_append,
    List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf,
    cast_eq]
  after_results_simp
  refine pick _ _ _ _ (funext fun k => ?_)
  obtain rfl : k = 0 := Subsingleton.elim _ _
  rfl

/-- Each group's expert. -/
theorem entered_e (c : Dev nD) : (entered m ((c.tc : Thread nD τ).loc main_v29) : S104.Idx → BitVec 32) = Tab.tabE (m ((c.tc : Thread nD τ).loc main_arg1)) := by
  have e : (hosts (F := F)).flatten = hostsA ++ (hostsB ++ hostsC) := by
    show hostOps0 ++ (hostOps0_1 ++ (hostOps0_2 ++ (hostOps0_3 ++ (hostOps0_4 ++ [])))) = _
    rw [List.append_nil, ← List.append_assoc hostsB, List.take_append_drop]
    simp only [List.append_assoc]
  show StableHlo.after (hosts (F := F)).flatten (fun b => m (c, b)) (Proc.devRef .tc main_v29) = _
  rw [e, StableHlo.after_append, StableHlo.after_append]
  refine (expertC _).trans ?_
  rw [(expertB _).1, (expertB _).2.1, (expertB _).2.2, endsA]
  rfl

end Cert.Kernel2Ideal.Moe

end
-- ==== Proof.MoeLaunch.lean ====
/- THE EXPERT FEED-FORWARD CALL, RUN at any tables in range and any arithmetic: every execution terminates, the output is what the proof data
   says, and the arguments end as they were. -/
module

public import proofs.«01_k».proof.Proof.MoeData
public import proofs.«01_k».proof.Proof.MoeHost
public import Idealize.ShloMosaic.Adequacy
public import Idealize.ShloMosaic.Init

@[expose] public section

set_option maxRecDepth 16384
set_option backward.proofsInPublic true

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S104.Idx → BitVec 32) (T1 : S1.Idx → BitVec 32) (h : InRange T0 T1)
  (m : (ℓ : Loc nD τ sig) → Buf (Elt F) ℓ) (ρ : Dev nD → PrngReg)

/-- The tables are these on every core when the call is reached. -/
def At : Prop :=
  (∀ c : Dev nD, (m ((c : Thread nD τ).loc main_v29) : S104.Idx → Elt F .i32) = T0)
    ∧ ∀ c : Dev nD, (m ((c : Thread nD τ).loc main_v6) : S1.Idx → Elt F .i32) = T1

/-- The counters' algebra in the machine's, and the pipeline at these tables. -/
abbrev emb : Emb (UR sig nD τ) 𝕄 := emb₁
abbrev pcs := Pipeline.pin (pcfgs (F := F)) fun _ => adm T0 T1 h

def u₀ : UR sig nD τ := initOf (Pipeline.cells (pcs (F := F) T0 T1 h) ((launch0 (F := F)).cellOf_inj fun _ => adm T0 T1 h))
  (Pipeline.launchToks (pcs (F := F) T0 T1 h) ((launch0 (F := F)).cellOf_inj fun _ => adm T0 T1 h))

theorem share_full (c : Dev nD) (w : Fin (cf (F := F) T0 T1 h).W) : (dats T0 T1 h m 0 c).share w = fullShare := by unfold Dat.share; split <;> rfl

theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v29) ↦{q 0} v 0) ∗ (((c : Thread nD τ).loc main_v6) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point: nothing is asked of the kept tokens. -/
theorem enter (c : Dev nD) :
    iprop(BI.emp ∗ Pipeline.prefHeld pre0 c (fun _ => fullShare.right) (adm (F := F) T0 T1 h).1 ∗ Pipeline.scopedRest spec0 c) ⊢ (dats T0 T1 h m 0 c).Φ 0 := by
  rw [tables_held, scopedRest0_eq, show (dats T0 T1 h m 0 c).Φ 0 = Phi T0 T1 h m c 0 from rfl]
  unfold Phi kept
  iintro ⟨-, ⟨HT0, HT1⟩, ⟨%f, HS⟩⟩
  isplitl [HS]
  · iexists (keep.view.read (Elt F) f); isplitr
    · ipureintro; exact fun hz => absurd rfl hz
    iexists f; isplitr
    · ipureintro; rfl
    iexact HS
  isplitl [HT0]; · iexact HT0
  iexact HT1

/-- After the last the buffer of kept tokens is given back. -/
theorem leave (c : Dev nD) : (dats T0 T1 h m 0 c).Φ (Fin.last (cf (F := F) T0 T1 h).N) ⊢ iprop(BI.emp ∗ Pipeline.scopedRest spec0 c) := by
  rw [scopedRest0_eq, show (dats T0 T1 h m 0 c).Φ (Fin.last (cf (F := F) T0 T1 h).N) = Phi T0 T1 h m c (Fin.last _) from rfl]
  unfold Phi kept
  iintro ⟨⟨%a, -, ⟨%f, -, HS⟩⟩, -, -⟩
  isplitr; · iempintro
  iexists f; iexact HS

theorem tables_at (hp : At T0 T1 m) (c : Dev nD) (j : Fin 2) : m ((c : Thread nD τ).loc (pre0.ref j)) = (adm (F := F) T0 T1 h).1 j := by
  fin_cases j
  · exact hp.1 c
  · exact hp.2 c

/-- The counts, which neither a window nor a table holds. -/
abbrev besides : Finset (Ref sig .tc) := {main_arg1}

theorem besides_sub : besides ⊆ ((Finset.univ.filter fun b : Ref sig .tc => ¬ b.isScoped) \ Finset.univ.image (Pipeline.arrRef spec0)) \ Finset.univ.image pre0.ref := by
  decide

theorem rest_split (c : Dev nD) (V : (b : Ref sig .tc) → Buf (Elt F) ((c.tc : Thread nD τ).loc b)) :
    (Pipeline.unscopedRestP (Ix := Unit) (Name := ℕ) (U := UR sig nD τ) (Lvl := ℕ) pre0 spec0 c V : sProp 𝕄)
      = iprop((bigSep besides fun b => ((c.tc : Thread nD τ).loc b) ↦{fullShare} V b)
          ∗ bigSep ((((Finset.univ.filter fun b : Ref sig .tc => ¬ b.isScoped) \ Finset.univ.image (Pipeline.arrRef spec0)) \ Finset.univ.image pre0.ref) \ besides)
              fun b => ((c.tc : Thread nD τ).loc b) ↦{fullShare} V b) := by
  unfold Pipeline.unscopedRestP; exact BI.bigSep_sdiff_split besides_sub

/-- The final state: every array at what the proof data says, the tables and the counts as they were. -/
def Ends : PUnit × MemSt nD τ sig (Elt F) → Prop := fun r =>
  ∀ c : Dev nD, (∀ w : Fin (cf (F := F) T0 T1 h).W, r.2.mem (((cf (F := F) T0 T1 h).win w).arr.view.loc (c : Thread nD τ)) = (dats T0 T1 h m 0 c).arrAt w (cf (F := F) T0 T1 h).N)
    ∧ ∀ b ∈ besides, r.2.mem ((c : Thread nD τ).loc b) = m ((c : Thread nD τ).loc b)

set_option backward.isDefEq.respectTransparency.types false in
set_option maxHeartbeats 4000000 in
/-- Every execution terminates there, with every counter at zero. -/
theorem run_ends (hp : At T0 T1 (entered m)) :
    θ_run (defs (F := F)) (onTc (τ := τ) (main (F := F))) ⟨m, fun _ => 0, ρ⟩ (fun r => Ends T0 T1 h (entered m) r ∧ r.2.sem = fun _ => 0) :=
  Pipeline.θ_run_region_noSem_pf_quiescent pcfgs (fun _ => adm T0 T1 h) (dats T0 T1 h (entered m)) () ((launch0 (F := F)).cellOf_inj fun _ => adm T0 T1 h) (0 : Fin 1)
    (launch0 (F := F)).win.to₀ (launch0 (F := F)).pre emb defs₀ Variants.none m ρ main
    (hbody := fun c => (body_obligation T0 T1 h (entered m) c).loose) (hne := (launch0 (F := F)).block_pos)
    (harr := (launch0 (F := F)).arr_whole) (hstage := (launch0 (F := F)).stage_whole) (howed := fun _ _ => rfl)
    (u₀ := u₀ (F := F) T0 T1 h) (hu₀ := .rfl)
    (V := fun c b => entered m ((c : Thread nD τ).loc b))
    (hmain := Pipeline.hmainP_prefixes pcfgs 0 defs₀ Variants.none m main hosts hosts_sub hosts_fresh main_chain)
    (hsplit := fun c => Pipeline.arrays_split (pcs T0 T1 h) (dats T0 T1 h (entered m)) 0 (launch0 (F := F)).win.arr_inj c (launch0 (F := F)).arr_whole
      (share_full T0 T1 h (entered m) c) _ _ fun _ => rfl)
    (hpf := tables_at T0 T1 h (entered m) hp)
    (X := fun _ => iprop(emp)) (Y := fun _ => iprop(emp))
    (Z := fun c => bigSep besides fun b => ((c : Thread nD τ).loc b) ↦{fullShare} entered m ((c : Thread nD τ).loc b))
    (hX := fun c => by
      refine (Entails.of_eq (rest_split c _)).trans ?_
      iintro ⟨HZ, -⟩
      isplitr; · iempintro
      iexact HZ)
    (hin := enter T0 T1 h (entered m))
    (hout := leave T0 T1 h (entered m))
    (QY := fun c s => ∀ b ∈ besides, s.mem ((c : Thread nD τ).loc b) = entered m ((c : Thread nD τ).loc b))
    (hY := fun c s' => by
      iintro ⟨-, HZ, HSI⟩
      imodintro
      iapply (pointsTo_read_all besides (fun b => (c : Thread nD τ).loc b) (fun b => entered m ((c : Thread nD τ).loc b)) s')
      isplitl [HZ] <;> iassumption)
    (hQ := fun _ h hz => ⟨fun c => ⟨(h c).1, (h c).2.2⟩, hz⟩)

attribute [local irreducible] entered

/-- The arguments as launched. -/
def Same (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- The output, the arguments and the counters at the end. -/
theorem run (hp : At T0 T1 (entered m)) :
    θ_run (defs (F := F)) (onTc (τ := τ) (main (F := F))) ⟨m, fun _ => 0, ρ⟩ (fun r =>
      (∀ c : Dev nD, r.2.mem ((c.tc : Thread nD τ).loc main_v30) = (dats T0 T1 h (entered m) 0 c).arrAt (4 : Fin 5) (cf (F := F) T0 T1 h).N ∧ Same m c r)
        ∧ r.2.sem = fun _ => 0) :=
  (θ_run defs _ _).mono (fun _ hr => ⟨fun c => ⟨(hr.1 c).1 (4 : Fin 5),
      (((hr.1 c).1 (0 : Fin 5)).trans ((dats T0 T1 h (entered m) 0 c).arrAt_in (0 : Fin 5) rfl _)).trans (entered_arg0 m c),
      ((hr.1 c).2 main_arg1 (Finset.mem_singleton_self _)).trans (entered_arg1 m c),
      (((hr.1 c).1 (1 : Fin 5)).trans ((dats T0 T1 h (entered m) 0 c).arrAt_in (1 : Fin 5) rfl _)).trans (entered_arg2 m c),
      (((hr.1 c).1 (2 : Fin 5)).trans ((dats T0 T1 h (entered m) 0 c).arrAt_in (2 : Fin 5) rfl _)).trans (entered_arg3 m c),
      (((hr.1 c).1 (3 : Fin 5)).trans ((dats T0 T1 h (entered m) 0 c).arrAt_in (3 : Fin 5) rfl _)).trans (entered_arg4 m c)⟩, hr.2⟩) (run_ends T0 T1 h m ρ hp)

end Cert.Kernel2Ideal.Moe

end
-- ==== Proof.MoePay.lean ====
/- WHAT THE EXPERT FEED-FORWARD'S PAYLOAD IS AT AN INDEX, over the extended reals: the sum so far and the tile's share of the hidden layer
   through the second weights. -/
module

public import proofs.«01_k».proof.Proof.Gen.Kernel2Ideal.Skeleton
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

theorem ofBits_one : Ideal.ofBits .f32 0x3F800000#32 = 1 := by
  simp [Ideal.ofBits, Ideal.ieee]
  rw [← EReal.coe_mul]
  norm_num

/-- A row's product with a column of the tile. -/
def tlin (X : Vec Ideal S512x2048 .bf16) (W : Vec Ideal S1x2048x1024 .bf16) (r : Fin 512) (f : Fin 1024) : EReal :=
  ∑ k : Fin 2048, X (ix2 r k) * W (ix3 (0 : Fin 1) k f)

/-- The hidden layer at a row and a column of the tile. -/
def thid (X : Vec Ideal S512x2048 .bf16) (W1 W3 : Vec Ideal S1x2048x1024 .bf16) (r : Fin 512) (f : Fin 1024) : EReal :=
  tlin X W1 r f * Ideal.div 1 (1 + Ideal.exp (-(tlin X W1 r f))) * tlin X W3 r f

theorem pay3_at (X : Vec Ideal S512x2048 .bf16) (W1 W3 : Vec Ideal S1x2048x1024 .bf16) (o : Vec Ideal S512x2048 .f32) (W2 : Vec Ideal S1x1024x2048 .bf16)
    (r : Fin 512) (d : Fin 2048) :
    k0_pay3 (F := Ideal) X W1 W3 o W2 (ix2 r d) = o (ix2 r d) + ∑ f : Fin 1024, thid X W1 W3 r f * W2 (ix3 (0 : Fin 1) f d) := by
  unfold thid tlin
  pointwise [k0_pay3, ofBits_one]
  simp only [zero_sub]

theorem pay2_at (j : S512x2048.Idx) : k0_pay2 (F := Ideal) j = (0 : EReal) := by
  idx_vars j
  pointwise [k0_pay2]

theorem pay4_at (j : S512x2048.Idx) : k0_pay4 (F := Ideal) j = (0 : EReal) := by
  idx_vars j
  pointwise [k0_pay4]

theorem pay1_eq (X : Vec Ideal S512x2048 .f32) (j : S512x2048.Idx) : k0_pay1 (F := Ideal) X j = X j := by
  idx_vars j
  pointwise [k0_pay1]

end Cert.Kernel2Ideal.Moe

end
-- ==== Proof.MoeRef.lean ====
/- THE EXPERT FEED-FORWARD'S REFERENCE, READ AT AN INDEX: at a token and a column it is the feed-forward of the token's group's expert, and
   zero past the groups in use. -/
module

public import proofs.«01_k».proof.Proof.Gen.Reference2Ideal.Read
public import Idealize.ShloMosaic.Lib.Pointwise
public import Idealize.ShloMosaic.Lib.Pipeline.ValueKit
public import Idealize.ShloMosaic.Lib.StableHlo.Predicate
public import Idealize.ShloMosaic.Lib.WordArith
public import proofs.«01_k».proof.Proof.MoeWords

@[expose] public section

set_option maxRecDepth 16384
set_option backward.proofsInPublic true

noncomputable section

namespace Cert.Reference2Ideal.At

open Cert.Reference2Ideal Cert.Reference2Ideal.Gen Cert.Reference2Ideal.Read
open Idealize.ShloMosaic Idealize.ShloMosaic.TcCoe Idealize.SL.Sem
open Cert.Moe Idealize.ShloMosaic.Routing

variable (x0 : FVec Ideal S53248x2048 .f32) (x1 : IVec S8 32) (x3 x4 : FVec Ideal S8x2048x7168 .bf16) (x5 : FVec Ideal S8x7168x2048 .bf16)

/-- A token's product with a column of an expert's weights. -/
def lin (w : FVec Ideal S8x2048x7168 .bf16) (e : Fin 8) (n : Fin 53248) (f : Fin 7168) : EReal := ∑ k : Fin 2048, w (ix3 e k f) * x0 (ix2 n k)

/-- The hidden layer of an expert at a token. -/
def hid (e : Fin 8) (n : Fin 53248) (f : Fin 7168) : EReal :=
  lin x0 x3 e n f * Ideal.div 1 (1 + Ideal.exp (-(lin x0 x3 e n f))) * lin x0 x4 e n f

/-- An expert's output at a token. -/
def ffn (e : Fin 8) (n : Fin 53248) (d : Fin 2048) : EReal := ∑ f : Fin 7168, hid x0 x3 x4 e n f * x5 (ix3 e f d)

theorem ofBits_1 : Ideal.ofBits .f32 0x3F800000#32 = 1 := by
  simp [Ideal.ofBits, Ideal.ieee]
  rw [← EReal.coe_mul]
  norm_num

theorem v19_at (e : Fin 8) (n : Fin 53248) (f : Fin 7168) : val_main_v19 (F := Ideal) x0 x3 (ix3 e n f) = lin x0 x3 e n f := by
  unfold val_main_v19 val_main_v18 val_main_v15 lin
  pointwise

theorem v22_at (e : Fin 8) (n : Fin 53248) (f : Fin 7168) : val_main_v22 (F := Ideal) x0 x4 (ix3 e n f) = lin x0 x4 e n f := by
  unfold val_main_v22 val_main_v21 val_main_v16 lin
  pointwise

theorem v23_at (e : Fin 8) (n : Fin 53248) (f : Fin 7168) : val_main_v23 (F := Ideal) x0 x3 x4 (ix3 e n f) = hid x0 x3 x4 e n f := by
  unfold val_main_v23 val_main_v20 val_main_call3_v5 val_main_call3_v4 val_main_call3_cst_0 val_main_call3_v3 val_main_call3_v2 val_main_call3_cst
    val_main_call3_v1 val_main_call3_v0 hid
  pointwise [v19_at, v22_at, ofBits_1]

theorem v24_at (e : Fin 8) (n : Fin 53248) (d : Fin 2048) : val_main_v24 (F := Ideal) x0 x3 x4 x5 (ix3 e n d) = ffn x0 x3 x4 x5 e n d := by
  unfold val_main_v24 val_main_v17 ffn
  pointwise [v23_at]

theorem v1_at (e : Fin 8) : val_main_v1 (F := Ideal) x1 (ix1 e) = BitVec.ofNat 32 (cn x1 e.val + 511) := by
  rw [val_main_v1_apply, show x1 (ix1 e) = _ from cn_word (x := x1) e, val_main_v0_apply, val_main_c_apply]
  show BitVec.ofNat 32 _ + 511#32 = _
  rw [← BitVec.ofNat_add]

/-- The ends of the experts' groups, -/
theorem v3_at (h : Counted x1) (e : Fin 8) : val_main_v3 (F := Ideal) x1 (ix1 e) = BitVec.ofNat 32 (en x1 e.val) :=
  ends_word h bcast_S_S8 (val_main_v1 (F := Ideal) x1) (v1_at x1) (val_main_call1_call0_v0 (F := Ideal)) rfl reduceWindows_S8_S8_w8s1p7_0 h_S_ e

/-- and of their rows. -/
theorem v5_at (h : Counted x1) (e : Fin 8) : val_main_v5 (F := Ideal) x1 (ix1 e) = BitVec.ofNat 32 (512 * en x1 e.val) := by
  rw [val_main_v5_apply, v3_at x1 h e, val_main_v4_apply, val_main_c_1_apply]
  show 512#32 * BitVec.ofNat 32 _ = _
  rw [BitVec.ofNat_mul]

/-- The group of a token. -/
def grp (n : Fin 53248) : Fin 104 := ⟨n.val / 512, by have := n.isLt; omega⟩

/-- A token's expert: how many experts' rows end at or before it. -/
theorem v13_at (h : Counted x1) (n : Fin 53248) : val_main_v13 (F := Ideal) x1 (ix1 n) = BitVec.ofNat 32 (ce x1 (grp n).val) := by
  unfold val_main_v13 val_main_v12
  refine (reduce_count (n := 53248) (m := 8) (by norm_num) _ natLt_1_32 reducesTo_S53248x8_S53248_d1 h_S_ n (fun e => 512 * en x1 e ≤ n.val) fun e => ?_).trans ?_
  · have e0 : val_main_v10 (F := Ideal) x1 (ix2 n e) = val_main_v5 (F := Ideal) x1 (ix1 e) := by
      rw [val_main_v10_apply, val_main_v8_apply]
      exact congrArg _ (funext fun a => match a with | ⟨0, _⟩ => rfl)
    have e1 : val_main_v9 (F := Ideal) (ix2 n e) = BitVec.ofNat 32 n.val := by
      rw [val_main_v9_apply, val_main_v7_apply, val_main_v6_apply]
      rfl
    have e2 : ValueIdx.ix2 n e = ix2 n e := rfl
    have hn := n.isLt
    have he := en_le h e.val e.isLt
    rw [e2, val_main_v11_apply, e0, e1, v5_at x1 h e]
    exact sge_word (by omega) (by omega)
  · exact congrArg (BitVec.ofNat 32) (ce_row n.val)

theorem v14_at (h : Counted x1) (n : Fin 53248) (e : Fin 8) :
    val_main_v14 (F := Ideal) x1 (ix2 n e) = if BitVec.ofNat 32 (ce x1 (grp n).val) = BitVec.ofNat 32 e.val then (1 : EReal) else 0 := by
  rw [← v13_at x1 h n, val_main_v14_apply]
  have e0 : val_main_call2_v2 (F := Ideal) x1 (ix2 n e) = val_main_v13 (F := Ideal) x1 (ix1 n) := by
    rw [val_main_call2_v2_apply, val_main_call2_v0_apply]
    exact congrArg _ (funext fun a => match a with | ⟨0, _⟩ => rfl)
  have e1 : val_main_call2_v3 (F := Ideal) (ix2 n e) = BitVec.ofNat 32 e.val := by
    rw [val_main_call2_v3_apply]; rfl
  show (((BitVec.ofBool (val_main_call2_v2 (F := Ideal) x1 (ix2 n e) == val_main_call2_v3 (F := Ideal) (ix2 n e))).toNat : ℝ) : EReal) = _
  rw [e0, e1]
  by_cases h : val_main_v13 (F := Ideal) x1 (ix1 n) = BitVec.ofNat 32 e.val
  · rw [if_pos h, h]; simp
  · rw [if_neg h, beq_eq_false_iff_ne.2 h]; simp

/-- The reference at a token and a column. -/
theorem v25_at (h : Counted x1) (n : Fin 53248) (d : Fin 2048) :
    val_main_v25 (F := Ideal) x0 x1 x3 x4 x5 (ix2 n d)
      = if he : ce x1 (grp n).val < 8 then ffn x0 x3 x4 x5 ⟨ce x1 (grp n).val, he⟩ n d else 0 := by
  have e : val_main_v25 (F := Ideal) x0 x1 x3 x4 x5 (ix2 n d)
      = ∑ e : Fin 8, val_main_v14 (F := Ideal) x1 (ix2 n e) * ffn x0 x3 x4 x5 e n d := by
    unfold val_main_v25
    pointwise [v24_at]
  have hc := ce_le (x := x1) (grp n).val
  have key : ∀ b : Fin 8, BitVec.ofNat 32 (ce x1 (grp n).val) = BitVec.ofNat 32 b.val ↔ ce x1 (grp n).val = b.val := fun b => by
    have hb := b.isLt
    refine ⟨fun hh => ?_, fun hh => by rw [hh]⟩
    have := congrArg BitVec.toNat hh
    rw [BitVec.toNat_ofNat, BitVec.toNat_ofNat] at this
    omega
  rw [e]
  simp only [v14_at x1 h n _, key]
  by_cases he : ce x1 (grp n).val < 8
  · rw [dif_pos he, Finset.sum_eq_single (⟨ce x1 (grp n).val, he⟩ : Fin 8)]
    · rw [if_pos rfl, one_mul]
    · intro b _ hb
      rw [if_neg (fun hh => hb (Fin.ext hh.symm)), zero_mul]
    · exact fun hx => absurd (Finset.mem_univ _) hx
  · rw [dif_neg he]
    refine Finset.sum_eq_zero fun b _ => ?_
    have hb := b.isLt
    rw [if_neg (fun hh => he (by omega)), zero_mul]

end Cert.Reference2Ideal.At

end
-- ==== Proof.MoeValue.lean ====
/- THE EXPERT FEED-FORWARD CALL'S RESULT over the extended reals: after the seven tiles of a group the output's block holds the expert's output
   at the group's tokens. -/
module

public import proofs.«01_k».proof.Proof.MoeData
public import proofs.«01_k».proof.Proof.MoePay
public import proofs.«01_k».proof.Proof.MoeRef

@[expose] public section

set_option maxRecDepth 16384
set_option backward.proofsInPublic true

noncomputable section

namespace Cert.Kernel2Ideal.Moe

open Cert.Kernel2Ideal Cert.Kernel2Ideal.Gen
open Idealize.ShloMosaic Idealize.ShloMosaic.TcCoe Idealize.SL.Sem

variable (T0 : S104.Idx → BitVec 32) (T1 : S1.Idx → BitVec 32) (h : InRange T0 T1)
  (m : (ℓ : Loc nD τ sig) → Buf (Elt Ideal) ℓ) (c : Dev nD)

/-- The argument arrays. -/
abbrev aX : FVec Ideal S53248x2048 .f32 := m ((c : Thread nD τ).loc main_arg0)
abbrev aW1 : FVec Ideal S8x2048x7168 .bf16 := m ((c : Thread nD τ).loc main_arg2)
abbrev aW3 : FVec Ideal S8x2048x7168 .bf16 := m ((c : Thread nD τ).loc main_arg3)
abbrev aW2 : FVec Ideal S8x7168x2048 .bf16 := m ((c : Thread nD τ).loc main_arg4)

/-- The group and the tile of a grid point. -/
def gq (t : Fin (cf (F := Ideal) T0 T1 h).N) : Fin 104 := (grid0.coords t) 0
theorem gq_val (t : Fin (cf (F := Ideal) T0 T1 h).N) : (gq T0 T1 h t).val = t.val / 7 := crd0 t

/-- The expert of a group. -/
def ex (q : Fin 104) : Fin 8 := ⟨(T0 (ix1 q)).toNat, h.expert _⟩

/-- The token at row `r` of group `q`; the hidden unit at column `f` of tile `j`. -/
def tok (q : Fin 104) (r : Fin 512) : Fin 53248 := ⟨512 * q.val + r.val, by have := q.isLt; have := r.isLt; omega⟩
def unit (j : Fin 7) (f : Fin 1024) : Fin 7168 := ⟨1024 * j.val + f.val, by have := j.isLt; have := f.isLt; omega⟩

theorem idx0 (t : Fin (cf (F := Ideal) T0 T1 h).N) (hq : t.val / 7 < used T1) :
    ((cf (F := Ideal) T0 T1 h).win (0 : Fin 5)).index t = ![(gq T0 T1 h t).val, 0] := by
  refine (ix_x T0 T1 h (grid0.coords t)).trans ?_
  have e := gq_val T0 T1 h t
  have e' : ((grid0.coords t) 0).val = (gq T0 T1 h t).val := rfl
  rw [e', Nat.min_eq_left (by omega)]

theorem tile_at (t : Fin (cf (F := Ideal) T0 T1 h).N) (hq : t.val / 7 < used T1) : tile T1 (grid0.coords t) = t.val % 7 := by
  unfold tile
  rw [crd0 t, if_pos hq, crd1 t]

theorem idx1 (t : Fin (cf (F := Ideal) T0 T1 h).N) (hq : t.val / 7 < used T1) :
    ((cf (F := Ideal) T0 T1 h).win (1 : Fin 5)).index t = ![(ex T0 T1 h (gq T0 T1 h t)).val, 0, t.val % 7] := by
  refine (ix_w1 T0 T1 h (grid0.coords t)).trans ?_
  rw [tile_at T0 T1 h t hq]
  rfl

theorem idx2 (t : Fin (cf (F := Ideal) T0 T1 h).N) (hq : t.val / 7 < used T1) :
    ((cf (F := Ideal) T0 T1 h).win (2 : Fin 5)).index t = ![(ex T0 T1 h (gq T0 T1 h t)).val, 0, t.val % 7] := by
  refine (ix_w3 T0 T1 h (grid0.coords t)).trans ?_
  rw [tile_at T0 T1 h t hq]
  rfl

theorem idx3 (t : Fin (cf (F := Ideal) T0 T1 h).N) (hq : t.val / 7 < used T1) :
    ((cf (F := Ideal) T0 T1 h).win (3 : Fin 5)).index t = ![(ex T0 T1 h (gq T0 T1 h t)).val, t.val % 7, 0] := by
  refine (ix_w2 T0 T1 h (grid0.coords t)).trans ?_
  rw [tile_at T0 T1 h t hq]
  rfl

theorem idx4 (t : Fin (cf (F := Ideal) T0 T1 h).N) : ((cf (F := Ideal) T0 T1 h).win (4 : Fin 5)).index t = ![(gq T0 T1 h t).val, 0] := by
  have e : ((grid0.coords t) 0).val < 104 := ((grid0.coords t) 0).isLt
  show cc0_transform_4 (grid0.coords t) = _
  unfold cc0_transform_4
  dsimp only
  rw [BitVec.toNat_ofNat, Nat.mod_eq_of_lt (by omega)]
  rfl

def gj (t : Fin (cf (F := Ideal) T0 T1 h).N) : Fin 7 := ⟨t.val % 7, by omega⟩

theorem blk_x (t : Fin (cf (F := Ideal) T0 T1 h).N) (hq : t.val / 7 < used T1) (r : Fin 512) (k : Fin 2048) :
    bx T0 T1 h m c t (ix2 r k) = aX m c (ix2 (tok (gq T0 T1 h t) r) k) := by
  have hr := r.isLt
  have hk := k.isLt
  have hg := (gq T0 T1 h t).isLt
  unfold bx iblk
  blk_ext [idx0 T0 T1 h t hq, tok]

theorem blk_w1 (t : Fin (cf (F := Ideal) T0 T1 h).N) (hq : t.val / 7 < used T1) (k : Fin 2048) (f : Fin 1024) :
    bw1 T0 T1 h m c t (ix3 (0 : Fin 1) k f) = aW1 m c (ix3 (ex T0 T1 h (gq T0 T1 h t)) k (unit (gj T0 T1 h t) f)) := by
  have hf := f.isLt
  have hk := k.isLt
  have hg := (gq T0 T1 h t).isLt
  unfold bw1 iblk
  blk_ext [idx1 T0 T1 h t hq, unit, gj]

theorem blk_w3 (t : Fin (cf (F := Ideal) T0 T1 h).N) (hq : t.val / 7 < used T1) (k : Fin 2048) (f : Fin 1024) :
    bw3 T0 T1 h m c t (ix3 (0 : Fin 1) k f) = aW3 m c (ix3 (ex T0 T1 h (gq T0 T1 h t)) k (unit (gj T0 T1 h t) f)) := by
  have hf := f.isLt
  have hk := k.isLt
  have hg := (gq T0 T1 h t).isLt
  unfold bw3 iblk
  blk_ext [idx2 T0 T1 h t hq, unit, gj]

theorem blk_w2 (t : Fin (cf (F := Ideal) T0 T1 h).N) (hq : t.val / 7 < used T1) (f : Fin 1024) (d : Fin 2048) :
    bw2 T0 T1 h m c t (ix3 (0 : Fin 1) f d) = aW2 m c (ix3 (ex T0 T1 h (gq T0 T1 h t)) (unit (gj T0 T1 h t) f) d) := by
  have hf := f.isLt
  have hd := d.isLt
  have hg := (gq T0 T1 h t).isLt
  unfold bw2 iblk
  blk_ext [idx3 T0 T1 h t hq, unit, gj]

open Cert.Reference2Ideal.At (lin hid ffn)

/-- The share of hidden unit `f` in an expert's output. -/
def term (e : Fin 8) (n : Fin 53248) (d : Fin 2048) (f : ℕ) : EReal :=
  if hf : f < 7168 then hid (aX m c) (aW1 m c) (aW3 m c) e n ⟨f, hf⟩ * aW2 m c (ix3 e ⟨f, hf⟩ d) else 0

/-- All shares together are the expert's output. -/
theorem sum_term (e : Fin 8) (n : Fin 53248) (d : Fin 2048) :
    ∑ f ∈ Finset.range 7168, term m c e n d f = ffn (aX m c) (aW1 m c) (aW3 m c) (aW2 m c) e n d := by
  unfold ffn
  rw [Finset.sum_range]
  refine Finset.sum_congr rfl fun f _ => ?_
  unfold term
  rw [dif_pos f.isLt]

/-- A tile's products are the linear forms at its hidden units. -/
theorem tlin_eq (t : Fin (cf (F := Ideal) T0 T1 h).N) (W : Vec Ideal S1x2048x1024 .bf16) (w : FVec Ideal S8x2048x7168 .bf16)
    (hW : ∀ (k : Fin 2048) (f : Fin 1024), W (ix3 (0 : Fin 1) k f) = w (ix3 (ex T0 T1 h (gq T0 T1 h t)) k (unit (gj T0 T1 h t) f)))
    (X : Vec Ideal S512x2048 .bf16) (hX : ∀ (r : Fin 512) (k : Fin 2048), X (ix2 r k) = aX m c (ix2 (tok (gq T0 T1 h t) r) k)) (r : Fin 512) (f : Fin 1024) :
    tlin X W r f = lin (aX m c) w (ex T0 T1 h (gq T0 T1 h t)) (tok (gq T0 T1 h t) r) (unit (gj T0 T1 h t) f) := by
  unfold tlin lin
  refine Finset.sum_congr rfl fun k _ => ?_
  rw [hX, hW]
  exact mul_comm (_ : EReal) _

/-- What a tile adds to the sums. -/
theorem tile_sum (t : Fin (cf (F := Ideal) T0 T1 h).N) (hq : t.val / 7 < used T1) (X : Vec Ideal S512x2048 .bf16)
    (hX : ∀ (r : Fin 512) (k : Fin 2048), X (ix2 r k) = aX m c (ix2 (tok (gq T0 T1 h t) r) k)) (r : Fin 512) (d : Fin 2048) :
    ∑ f : Fin 1024, thid X (bw1 T0 T1 h m c t) (bw3 T0 T1 h m c t) r f * bw2 T0 T1 h m c t (ix3 (0 : Fin 1) f d)
      = ∑ f ∈ Finset.range 1024, term m c (ex T0 T1 h (gq T0 T1 h t)) (tok (gq T0 T1 h t) r) d (1024 * (t.val % 7) + f) := by
  rw [Finset.sum_range]
  refine Finset.sum_congr rfl fun f _ => ?_
  have hf : 1024 * (t.val % 7) + f.val < 7168 := by have := f.isLt; omega
  unfold term thid hid
  rw [dif_pos hf, blk_w2 T0 T1 h m c t hq, tlin_eq T0 T1 h m c t _ (aW1 m c) (blk_w1 T0 T1 h m c t hq) X hX,
    tlin_eq T0 T1 h m c t _ (aW3 m c) (blk_w3 T0 T1 h m c t hq) X hX]
  rfl

/-- In a group in use, after a tile: the kept tokens are the group's, the sums those of the hidden units so far. -/
theorem traj_used : ∀ (n : ℕ) (t : Fin (cf (F := Ideal) T0 T1 h).N), t.val = n → t.val / 7 < used T1 →
    (∀ (r : Fin 512) (k : Fin 2048), (traj T0 T1 h m c t.val t.isLt).2 (ix2 r k) = aX m c (ix2 (tok (gq T0 T1 h t) r) k))
      ∧ ∀ (r : Fin 512) (d : Fin 2048), (traj T0 T1 h m c t.val t.isLt).1 (ix2 r d)
          = ∑ f ∈ Finset.range (1024 * (t.val % 7 + 1)), term m c (ex T0 T1 h (gq T0 T1 h t)) (tok (gq T0 T1 h t) r) d f := by
  intro n
  induction n with
  | zero =>
    intro t ht hq
    have h0 : t.val % 7 = 0 := by rw [ht]
    have hX : ∀ (r : Fin 512) (k : Fin 2048), k0_pay1 (F := Ideal) (bx T0 T1 h m c t) (ix2 r k) = aX m c (ix2 (tok (gq T0 T1 h t) r) k) := fun r k =>
      (pay1_eq _ _).trans (blk_x T0 T1 h m c t hq r k)
    rw [traj_eq]
    unfold step
    rw [if_pos hq, if_pos h0]
    refine ⟨hX, fun r d => ?_⟩
    refine (pay3_at ..).trans ?_
    rw [pay2_at, zero_add, tile_sum T0 T1 h m c t hq _ hX, h0]
    simp only [Nat.mul_zero, Nat.zero_add, Nat.mul_one]
  | succ n ih =>
    intro t ht hq
    by_cases h0 : t.val % 7 = 0
    · have hX : ∀ (r : Fin 512) (k : Fin 2048), k0_pay1 (F := Ideal) (bx T0 T1 h m c t) (ix2 r k) = aX m c (ix2 (tok (gq T0 T1 h t) r) k) := fun r k =>
        (pay1_eq _ _).trans (blk_x T0 T1 h m c t hq r k)
      rw [traj_eq]
      unfold step
      rw [if_pos hq, if_pos h0]
      refine ⟨hX, fun r d => ?_⟩
      refine (pay3_at ..).trans ?_
      rw [pay2_at, zero_add, tile_sum T0 T1 h m c t hq _ hX, h0]
      simp only [Nat.mul_zero, Nat.zero_add, Nat.mul_one]
    · have hl := t.isLt
      have hp : t.val - 1 < (cf (F := Ideal) T0 T1 h).N := by omega
      have hd : (t.val - 1) / 7 = t.val / 7 := by omega
      have hm : (t.val - 1) % 7 + 1 = t.val % 7 := by omega
      obtain ⟨iX, iO⟩ := ih ⟨t.val - 1, hp⟩ (by show t.val - 1 = n; omega) (by show (t.val - 1) / 7 < _; rw [hd]; exact hq)
      have eg : gq T0 T1 h ⟨t.val - 1, hp⟩ = gq T0 T1 h t := Fin.ext (by rw [gq_val, gq_val]; exact hd)
      rw [eg] at iX iO
      have ep : prev T0 T1 h m c t.val (Nat.le_of_lt t.isLt) = traj T0 T1 h m c (t.val - 1) hp := by
        unfold prev; rw [dif_neg (by omega)]
      rw [traj_eq, ep]
      unfold step
      rw [if_pos hq, if_neg h0]
      refine ⟨iX, fun r d => ?_⟩
      refine (pay3_at ..).trans ?_
      rw [tile_sum T0 T1 h m c t hq _ iX]
      refine (congrArg (fun a : EReal => a + _) (iO r d)).trans ?_
      show ∑ f ∈ Finset.range (1024 * ((t.val - 1) % 7 + 1)), _ + _ = _
      rw [hm, show 1024 * (t.val % 7 + 1) = 1024 * (t.val % 7) + 1024 from by ring, Finset.sum_range_add]

/-- In a group not in use the block is zero. -/
theorem traj_rest : ∀ (n : ℕ) (t : Fin (cf (F := Ideal) T0 T1 h).N), t.val = n → ¬ t.val / 7 < used T1 →
    ∀ j, (traj T0 T1 h m c t.val t.isLt).1 j = (0 : EReal) := by
  intro n
  induction n with
  | zero =>
    intro t ht hq
    exact absurd (show t.val / 7 < used T1 by rw [ht]; exact h.pos (ix1 (0 : Fin 1))) hq
  | succ n ih =>
    intro t ht hq j
    rw [traj_eq]
    unfold step
    by_cases h0 : t.val % 7 = 0
    · rw [if_neg hq, if_pos h0]
      exact pay4_at j
    · have hl := t.isLt
      have hp : t.val - 1 < (cf (F := Ideal) T0 T1 h).N := by omega
      have hd : (t.val - 1) / 7 = t.val / 7 := by omega
      rw [if_neg hq, if_neg h0]
      unfold prev
      rw [dif_neg (by omega)]
      exact ih ⟨t.val - 1, hp⟩ (by show t.val - 1 = n; omega) (by show ¬ (t.val - 1) / 7 < _; rw [hd]; exact hq) j

open Cert.Reference2Ideal.At (grp)

/-- The result from the tables: at a token of a group in use the output of the group's expert, zero past them. -/
def grouped (n : Fin 53248) (d : Fin 2048) : EReal :=
  if (grp n).val < used T1 then ffn (aX m c) (aW1 m c) (aW3 m c) (aW2 m c) (ex T0 T1 h (grp n)) n d else 0

def groupedArr : FVec Ideal S53248x2048 .f32 := fun i => grouped T0 T1 h m c (i 0) (i 1)

/-- After a group's last tile its block is this. -/
theorem point (t : Fin (cf (F := Ideal) T0 T1 h).N) (h6 : t.val % 7 = 6) (r : Fin 512) (d : Fin 2048) :
    (traj T0 T1 h m c t.val t.isLt).1 (ix2 r d)
      = groupedArr T0 T1 h m c (ix2 (tok (gq T0 T1 h t) r) d) := by
  have hr := r.isLt
  have hg := gq_val T0 T1 h t
  have eg : grp (tok (gq T0 T1 h t) r) = gq T0 T1 h t :=
    Fin.ext (by show (512 * (gq T0 T1 h t).val + r.val) / 512 = _; omega)
  show _ = grouped T0 T1 h m c (tok (gq T0 T1 h t) r) d
  unfold grouped
  rw [eg, hg]
  by_cases hq : t.val / 7 < used T1
  · rw [if_pos hq, (traj_used T0 T1 h m c t.val t rfl hq).2 r d, h6]
    exact sum_term m c _ _ d
  · rw [if_neg hq]
    exact traj_rest T0 T1 h m c t.val t rfl hq _

/-- The blocks written back fill the array. -/
theorem covers : ((cf (F := Ideal) T0 T1 h).win (4 : Fin 5)).Covers := by
  have eN : (cf (F := Ideal) T0 T1 h).N = 728 := (by decide : grid0.N = 728)
  refine ⟨(by decide : ∀ a : Fin 2, 0 < S512x2048.size a), fun β => ?_⟩
  have b0 : (β (0 : Fin 2)).val < 104 :=
    lt_of_lt_of_eq (β (0 : Fin 2)).isLt (show (53248 + 512 - 1) / 512 = 104 from by decide)
  have b1 : (β (1 : Fin 2)).val < 1 :=
    lt_of_lt_of_eq (β (1 : Fin 2)).isLt (show (2048 + 2048 - 1) / 2048 = 1 from by decide)
  refine ⟨⟨7 * (β (0 : Fin 2)).val + 6, lt_of_lt_of_eq (by omega) eN.symm⟩, ?_, ?_⟩
  · rw [flush4, decide_eq_true_eq]
    show (7 * (β (0 : Fin 2)).val + 6) % 7 = 6
    omega
  · intro a
    refine ⟨?_, .inl rfl⟩
    rw [idx4]
    match a with
    | ⟨0, _⟩ =>
      refine (gq_val T0 T1 h _).trans ?_
      show (7 * (β (0 : Fin 2)).val + 6) / 7 = (β (0 : Fin 2)).val
      omega
    | ⟨1, _⟩ => show 0 = (β (1 : Fin 2)).val; omega

/-- The call's result array. -/
theorem final : (dats T0 T1 h m 0 c).arrAt (4 : Fin 5) (cf (F := Ideal) T0 T1 h).N
    = groupedArr T0 T1 h m c := by
  refine (dats T0 T1 h m 0 c).arrAt_eq_of_covers (4 : Fin 5) _ (covers T0 T1 h) fun t hf y => ?_
  rw [flush4, decide_eq_true_eq] at hf
  blk_simp
  rw [after4]
  idx_vars y
  refine (point T0 T1 h m c t hf y0 y1).trans ?_
  have hr := y0.isLt
  have hd := y1.isLt
  have hg := (gq T0 T1 h t).isLt
  blk_ext [idx4 T0 T1 h t, tok]

end Cert.Kernel2Ideal.Moe

end
-- ==== Proof.Counted.lean ====
/- THE EXPERT FEED-FORWARD'S PRECONDITION: where it holds no expert has more rows than there are, and all together have at least one and no more
   than there are. -/
module

public import proofs.«01_k».proof.Proof.Gen.Pre_counted
public import proofs.«01_k».proof.Proof.MoeWords
public import Idealize.ShloMosaic.Lib.ReduceAll
public import Idealize.ShloMosaic.Lib.Pointwise
public import Idealize.ShloMosaic.Lib.StableHlo.Predicate
public import Idealize.ShloMosaic.Lib.WordArith

@[expose] public section

noncomputable section

namespace Cert.Pre_counted.Use

open Cert.Pre_counted Cert.Pre_counted.Gen
open Idealize.ShloMosaic Idealize.ShloMosaic.TcCoe Idealize.SL.Sem Idealize.ShloMosaic.Routing

/-- A word from a lower to an upper number, signed. -/
theorem between (x : BitVec 32) (a b : ℕ) (ha : a < 2 ^ 31) (hb : b < 2 ^ 31) (h0 : IntOp.cmpi .sge x (BitVec.ofNat 32 a) = 1#1)
    (h1 : IntOp.cmpi .sle x (BitVec.ofNat 32 b) = 1#1) : a ≤ x.toNat ∧ x.toNat ≤ b := by
  have h0' := BitVec.sle_iff_toInt_le.1 ((WordArith.ofBool_eq_one_iff _).1 h0)
  have h1' := BitVec.sle_iff_toInt_le.1 ((WordArith.ofBool_eq_one_iff _).1 h1)
  rw [WordArith.toInt_ofNat_small a ha] at h0'
  rw [WordArith.toInt_ofNat_small b hb] at h1'
  have hl := x.isLt
  rw [BitVec.toInt_eq_toNat_cond] at h0' h1'
  split at h0' <;> omega

variable {F : FTy → Type} [FloatOps F] (a0 : FVec F S53248x2048 .f32) (a1 : IVec S8 32)
  (a2 a3 : FVec F S8x2048x7168 .bf16) (a4 : FVec F S8x7168x2048 .bf16) (h : fn (F := F) a0 a1 a2 a3 a4 = fun _ => 1#1)

include h

theorem counted : Cert.Moe.Counted a1 := by
  have e := congrFun h (Shape.Idx.first h_S_)
  unfold fn at e
  dsimp only at e
  obtain ⟨e1, eL⟩ := IntOp.andi_eq_one.1 e
  obtain ⟨eE, eP⟩ := IntOp.andi_eq_one.1 e1
  have le : ∀ e, Cert.Moe.cn a1 e ≤ 49152 := by
    intro e
    unfold Cert.Moe.cn
    by_cases he : e < 8
    · rw [dif_pos he]
      obtain ⟨g0, g1⟩ := IntOp.andi_eq_one.1 (Host.reduce_andi_all _ _ _ _ _ eE (ix1 ⟨e, he⟩))
      exact (between _ 0 49152 (by norm_num) (by norm_num) g0 g1).2
    · rw [dif_neg he]; omega
  have hs := (congrArg _ (ValueIdx.eq_ix0 (Shape.Idx.first h_S_))).trans (reduce_sum a1 (Cert.Moe.cn a1) Cert.Moe.cn_word reducesTo_S8_S_d0 h_S_)
  have hb := between _ 1 49152 (by norm_num) (by norm_num) eP eL
  rw [hs, BitVec.toNat_ofNat, Nat.mod_eq_of_lt (by
    have h0 := le 0; have h1 := le 1; have h2 := le 2; have h3 := le 3; have h4 := le 4; have h5 := le 5; have h6 := le 6; have h7 := le 7
    rw [Cert.Moe.range8]; omega)] at hb
  exact ⟨le, hb.1, hb.2⟩

end Cert.Pre_counted.Use

end
-- ==== Proof.Experts.lean ====
/- THE EXPERT FEED-FORWARD'S CLAIMS from its one run: both frames, and the value beside the reference's. -/
module

public import proofs.«01_k».proof.Defs
public import proofs.«01_k».proof.Proof.Gen.Kernel2.Launch
public import proofs.«01_k».proof.Proof.Gen.Reference2Ideal.Run
public import proofs.«01_k».proof.Proof.MoeLaunch
public import proofs.«01_k».proof.Proof.MoeValue
public import proofs.«01_k».proof.Proof.Counted
public import Idealize.ShloMosaic.Lib.Claim
public import Idealize.ShloMosaic.Adequacy

@[expose] public section

set_option maxRecDepth 16384
set_option backward.proofsInPublic true

noncomputable section

namespace Cert.Kernel2Ideal.Moe

open Cert.Kernel2Ideal
open Idealize.ShloMosaic Idealize.ShloMosaic.TcCoe Idealize.SL.Sem

variable {F : FTy → Type} [FloatOps F] (m : (ℓ : Loc nD τ sig) → Buf (Elt F) ℓ)

/-- The counts in a memory. -/
abbrev cts : IVec S8 32 := m (((0 : Dev nD).tc : Thread nD τ).loc main_arg1)

/-- The tables the host operations leave from them. -/
abbrev t0 : S104.Idx → BitVec 32 := Tab.tabE (cts m)
abbrev t1 : S1.Idx → BitVec 32 := Tab.tabN (cts m)

/-- What the precondition says of the arguments. -/
def Fits : Prop := ∀ c : Dev nD,
  (@Cert.Pre_counted.fn Cert.Pre_counted.Gen.facts F _ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) = fun _ => 1#1

variable {m}

theorem counts (h : Fits m) : Cert.Moe.Counted (cts m) := Cert.Pre_counted.Use.counted _ _ _ _ _ (h 0)

theorem used_eq (h : Fits m) (j : S1.Idx) : (t1 m j).toNat = Cert.Moe.en (cts m) 7 := by
  have hl := Cert.Moe.last_le (counts h)
  have e : (t1 m j).toNat = (BitVec.ofNat 32 (Cert.Moe.en (cts m) 7)).toNat := congrArg BitVec.toNat (Tab.tabN_at (counts h) j)
  rw [e, BitVec.toNat_ofNat]
  omega

theorem range (h : Fits m) : InRange (t0 m) (t1 m) :=
  ⟨fun j => Tab.tabE_lt (counts h) j, fun j => by rw [used_eq h]; exact Cert.Moe.last_pos (counts h),
    fun j => by rw [used_eq h]; exact Cert.Moe.last_le (counts h)⟩

theorem tables : At (t0 m) (t1 m) (entered m) :=
  ⟨fun c => by obtain rfl : c = 0 := Subsingleton.elim (α := Fin 1) _ _; exact entered_e m 0,
    fun c => by obtain rfl : c = 0 := Subsingleton.elim (α := Fin 1) _ _; exact entered_n m 0⟩

/-- The expert feed-forward's run from counts in range. -/
theorem experts (g : Dev nD → PrngReg) (h : Fits m) :
    θ_run (defs (F := F)) (onTc (τ := τ) (main (F := F))) ⟨m, fun _ => 0, g⟩ (fun r =>
      (∀ c : Dev nD, r.2.mem ((c.tc : Thread nD τ).loc main_v30)
          = (dats (t0 m) (t1 m) (range h) (entered m) 0 c).arrAt (4 : Fin 5) (cf (F := F) (t0 m) (t1 m) (range h)).N ∧ Same m c r)
        ∧ r.2.sem = fun _ => 0) :=
  run (t0 m) (t1 m) (range h) m g tables

/-- Its frame. -/
theorem experts_frame (g : Dev nD → PrngReg) (h : Fits m) :
    θ_run (defs (F := F)) (onTc (τ := τ) (main (F := F))) ⟨m, fun _ => 0, g⟩ (fun r => (∀ c : Dev nD, Same m c r) ∧ r.2.sem = fun _ => 0) :=
  (θ_run defs _ _).mono (fun _ hr => ⟨fun c => (hr.1 c).2, hr.2⟩) (experts g h)

/-- The expert feed-forward runs to its end and leaves its arguments and the semaphores as they were. -/
theorem frame_experts_ideal : Cert.quiescent_Kernel2Ideal := fun m g h =>
  experts_frame (F := Ideal) g h

set_option maxHeartbeats 4000000 in
/-- The two programs' texts are the same: their bodies, -/
theorem defs₀_eq : Cert.Kernel2.defs₀ (F := F) = defs₀ (F := F) := by
  funext p l x
  match p, l, x with
  | .tc, ⟨0, _⟩, (t, s) => rfl
  | .scScalar _, _, _ => rfl
  | .scVector _ _, _, _ => rfl

set_option maxHeartbeats 4000000 in
/-- so their body tables, -/
theorem defs_eq : Cert.Kernel2.defs (F := F) = defs (F := F) :=
  congrArg (Pipeline.defs (pcfgs (F := F))) defs₀_eq

set_option maxHeartbeats 4000000 in
/-- and the operations in their order. -/
theorem main_eq (c : Dev nD) : Cert.Kernel2.main (F := F) c = main (F := F) c := by
  chain_rfl

set_option maxHeartbeats 4000000 in
/-- So it does on the machine's numbers: the run is over any. -/
theorem frame_experts : Cert.quiescent_Kernel2 := by
  intro m g h
  rw [defs_eq, funext main_eq]
  exact experts_frame (F := Bits) (m := m) g h

/-- The reference runs to its end, leaves its arguments as they were, and leaves no semaphore raised: it declares none. -/
theorem frame_experts_ref : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The result by the tables is the reference's by the counts. -/
theorem grouped_eq {m : (ℓ : Loc nD τ sig) → Buf (Elt Ideal) ℓ} (h : Fits m) :
    groupedArr (t0 m) (t1 m) (range h) (entered m) 0
      = Cert.Reference2Ideal.Read.val_main_v25 (F := Ideal) (aX m 0) (cts m) (aW1 m 0) (aW3 m 0) (aW2 m 0) := by
  funext i
  idx_vars i
  refine Eq.trans ?_ (Cert.Reference2Ideal.At.v25_at _ _ _ _ _ (counts h) i0 i1).symm
  have eX : aX (entered m) 0 = aX m 0 := entered_arg0 m 0
  have e1 : aW1 (entered m) 0 = aW1 m 0 := entered_arg2 m 0
  have e3 : aW3 (entered m) 0 = aW3 m 0 := entered_arg3 m 0
  have e2 : aW2 (entered m) 0 = aW2 m 0 := entered_arg4 m 0
  show grouped (t0 m) (t1 m) (range h) (entered m) 0 i0 i1 = _
  unfold grouped
  rw [eX, e1, e3, e2, show used (t1 m) = Cert.Moe.en (cts m) 7 from used_eq h _]
  by_cases hg : (Cert.Reference2Ideal.At.grp i0).val < Cert.Moe.en (cts m) 7
  · have hc := (Cert.Moe.lt_iff (x := cts m) _).2 hg
    rw [if_pos hg, dif_pos hc]
    refine congrArg (fun e : Fin 8 => Cert.Reference2Ideal.At.ffn (aX m 0) (aW1 m 0) (aW3 m 0) (aW2 m 0) e i0 i1) (Fin.ext ?_)
    refine (congrArg BitVec.toNat (Tab.tabE_at (counts h) _ hg)).trans ?_
    rw [BitVec.toNat_ofNat]
    show Cert.Moe.ce (cts m) _ % _ = Cert.Moe.ce (cts m) _
    omega
  · rw [if_neg hg, dif_neg (fun hc => hg ((Cert.Moe.lt_iff (x := cts m) _).1 hc))]

/-- The kernel's run with its result named. -/
theorem experts_value {m : (ℓ : Loc nD τ sig) → Buf (Elt Ideal) ℓ} (g : Dev nD → PrngReg) (h : Fits m) :
    θ_run (defs (F := Ideal)) (onTc (τ := τ) (main (F := Ideal))) ⟨m, fun _ => 0, g⟩ (fun r =>
      ∀ c : Dev nD, r.2.mem ((c.tc : Thread nD τ).loc main_v30)
          = Cert.Reference2Ideal.Read.val_main_v25 (F := Ideal) (aX m c) (cts m) (aW1 m c) (aW3 m c) (aW2 m c) ∧ Same m c r) :=
  (θ_run defs _ _).mono (fun _ hr c => ⟨by
    obtain rfl : c = 0 := Subsingleton.elim (α := Fin 1) _ _
    exact ((hr.1 0).1.trans (final (t0 m) (t1 m) (range h) (entered m) 0)).trans (grouped_eq h), (hr.1 c).2⟩) (experts g h)

/-- The expert feed-forward's result is the reference's. -/
theorem algebraic_experts : Cert.algebraic_Kernel2Ideal_Reference2Ideal := by
  intro m g m' g' hpre hargs
  refine ⟨_, experts_value g hpre, (θ_run Cert.Reference2Ideal.defs _ _).mono (fun r hr c => ⟨?_, (hr c).2⟩)
    (Cert.Reference2Ideal.Value.run (F := Ideal) m' g')⟩
  obtain ⟨h0, h1, h2, h3, h4⟩ := hargs c
  obtain rfl : c = 0 := Subsingleton.elim (α := Fin 1) _ _
  refine (hr 0).1.trans ((Cert.Reference2Ideal.Read.val_main_v25_eq (F := Ideal) _ _ _ _ _).trans ?_)
  simp only [h0, h1, h2, h3, h4]

end Cert.Kernel2Ideal.Moe

end
-- ==== Proof.lean ====
/- THE CERTIFICATE. The attention: the frames are the generated runs, the named constant is worth what its name says, and the value claim sets the
   kernel's result (Proof/Final.lean) beside the reference's run. The expert feed-forward: the frames and the value claim are one run from the
   counts the precondition allows (Proof/Experts.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Final
public import proofs.«01_k».proof.Proof.Finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_counted
public import proofs.«01_k».proof.Proof.MoeLaunch
public import proofs.«01_k».proof.Proof.MoeValue
public import proofs.«01_k».proof.Proof.Counted
public import proofs.«01_k».proof.Proof.Experts
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The constant the kernel multiplies by is the exact product its name stands for. -/
theorem preserves : Cert.preserves_Kernel_KernelIdeal :=
  IdealRules.named_const.statement Cert.KernelIdeal.κ "c" .f32 0x3E0293EE#32 (((Real.sqrt 128)⁻¹ * (Real.log 2)⁻¹ : ℝ) : EReal) rfl

/-- On finite queries and keys the kernel's result is the reference's. -/
theorem algebraic : Cert.algebraic_KernelIdeal_ReferenceIdeal_pre_finite := by
  pair_intro
  · run_from Cert.KernelIdeal.Gen.run_main m g
  · run_from Cert.ReferenceIdeal.Value.run m' g'
    obtain ⟨hq, hk⟩ := Cert.Pre_finite.Use.both _ _ _ _ _ _ (hpre c)
    exact (Cert.KernelIdeal.Value.final m c hq hk).symm

/-- The reference runs to its end, leaves its arguments as they were, and leaves no semaphore raised: it declares none. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Everything the certificate states: of both calls the frames, the replaced constant, and the value of the kernel's result. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts, Cert.Pre_counted.Gen.facts, by
  refine ⟨fun m g _ => Cert.Kernel.Gen.frame m g, fun m g _ => Cert.KernelIdeal.Gen.frame m g, fun m g _ => Cert.KernelIdeal.Gen.frame m g,
    frame_ref, fun m g _ => frame_ref m g trivial, Cert.Kernel2Ideal.Moe.frame_experts, Cert.Kernel2Ideal.Moe.frame_experts_ideal,
    Cert.Kernel2Ideal.Moe.frame_experts_ref, fun m g _ => Cert.Kernel2Ideal.Moe.frame_experts_ref m g trivial,
    preserves, algebraic, trivial, Cert.Kernel2Ideal.Moe.algebraic_experts⟩⟩

end Cert.Proof

end
